-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2x512 : Shape := ⟨2, ![2, 512]⟩
abbrev S2 : Shape := ⟨1, ![2]⟩
abbrev S4 : Shape := ⟨1, ![4]⟩
abbrev S_ : Shape := ⟨0, ![]⟩
abbrev S1 : Shape := ⟨1, ![1]⟩
abbrev S1x512 : Shape := ⟨2, ![1, 512]⟩
abbrev S1022x512 : Shape := ⟨2, ![1022, 512]⟩
abbrev S1008x512 : Shape := ⟨2, ![1008, 512]⟩
abbrev S8x512 : Shape := ⟨2, ![8, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v6 : BitVec 32 := Scalar.extui v3
  let c0_i32_0 : BitVec 32 := 0#32
  let v7 : BitVec 1 := Scalar.cmpi .ne v6 c0_i32_0
  v7

def k0_dev1 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v100 : BitVec 32 := Scalar.subi v2 c1_i32_62
  let c1_i32_64 : BitVec 32 := 1#32
  let v101 : BitVec 32 := Scalar.muli v100 c1_i32_64
  let v102 : BitVec 32 := Scalar.addi c0_i32_65 v101
  v102.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v8 : BitVec 32 := Scalar.extui v4
  let c0_i32_1 : BitVec 32 := 0#32
  let v9 : BitVec 1 := Scalar.cmpi .ne v8 c0_i32_1
  v9

def k0_dev2 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v100 : BitVec 32 := Scalar.addi v2 c1_i32_62
  let c1_i32_64 : BitVec 32 := 1#32
  let v101 : BitVec 32 := Scalar.muli v100 c1_i32_64
  let v102 : BitVec 32 := Scalar.addi c0_i32_65 v101
  v102.toNat
def k0_amt1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v12 : BitVec 32 := Scalar.extui v3
  let c15_i32 : BitVec 32 := 15#32
  let v4 : BitVec 1 := Scalar.cmpi .slt v2 c15_i32
  let v13 : BitVec 32 := Scalar.extui v4
  let v14 : BitVec 32 := Scalar.addi v12 v13
  v14

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let v17 : BitVec 32 := Scalar.extui v3
  let c0_i32_7 : BitVec 32 := 0#32
  let v18 : BitVec 1 := Scalar.cmpi .ne v17 c0_i32_7
  v18

def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v15 : BitVec 32 := Scalar.subi v2 c1_i32_3
  let c1_i32_62 : BitVec 32 := 1#32
  let v100 : BitVec 32 := Scalar.muli v15 c1_i32_62
  let v101 : BitVec 32 := Scalar.addi c0_i32_63 v100
  v101.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 1 := Scalar.cmpi .slt v2 c15_i32
  let v19 : BitVec 32 := Scalar.extui v4
  let c0_i32_10 : BitVec 32 := 0#32
  let v20 : BitVec 1 := Scalar.cmpi .ne v19 c0_i32_10
  v20

def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v16 : BitVec 32 := Scalar.addi v2 c1_i32_4
  let c1_i32_62 : BitVec 32 := 1#32
  let v100 : BitVec 32 := Scalar.muli v16 c1_i32_62
  let v101 : BitVec 32 := Scalar.addi c0_i32_63 v100
  v101.toNat
-- ==== ReferenceIdeal.lean ====
abbrev S16384x512 : Shape := ⟨2, ![16384, 512]⟩
abbrev S16382x512 : Shape := ⟨2, ![16382, 512]⟩
abbrev S_ : Shape := ⟨0, ![]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16382x512, .f32⟩
  | .hbm, ⟨2, _⟩ => ⟨S_, .f32⟩
  | .hbm, ⟨3, _⟩ => ⟨S16382x512, .f32⟩
  | .hbm, ⟨4, _⟩ => ⟨S16382x512, .f32⟩
  | .hbm, ⟨5, _⟩ => ⟨S16382x512, .f32⟩
  | .hbm, ⟨6, _⟩ => ⟨S_, .f32⟩
  | .hbm, ⟨7, _⟩ => ⟨S16382x512, .f32⟩
  | .hbm, ⟨8, _⟩ => ⟨S16382x512, .f32⟩
  | .hbm, ⟨9, _⟩ => ⟨S16382x512, .f32⟩
  | .hbm, ⟨10, _⟩ => ⟨S16382x512, .f32⟩
  | .hbm, ⟨11, _⟩ => ⟨S_, .f32⟩
  | .hbm, ⟨12, _⟩ => ⟨S16382x512, .f32⟩
  | .hbm, ⟨13, _⟩ => ⟨S16382x512, .f32⟩
  | .hbm, ⟨14, _⟩ => ⟨S16382x512, .f32⟩
  | .hbm, ⟨15, _⟩ => ⟨S1x512, .f32⟩
  | .hbm, ⟨16, _⟩ => ⟨S1x512, .f32⟩
  | .hbm, ⟨17, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Mesh.lean ====
/-
  # The line of sixteen devices and the buffers each of them uses

  Device `c` owns rows `1024 c … 1024 c + 1023` of the array.  It has a left neighbour when `0 < c` and a right
  neighbour when `c < 15`.  This module names the neighbours, the memrefs and the semaphore cells the kernel uses,
  and settles the kernel's printed conditions and device numbers.

  Who waits on what, who raises it, and what each raise hands over (device `c`; a cell exists for every device, its
  duties only where the neighbour does):

  * barrier `bar c`: raised by one by the left neighbour, which hands over row 1 of its own halo buffer, and by one by the
    right neighbour, which hands over row 0 of its own.  `c` waits once, for as many units as it has neighbours.
  * receive cell `rcv false c`: credited by the left neighbour's transfer, which leaves the left neighbour's last row of
    `x` in row 0 of `c`'s halo buffer.  `rcv true c`: the same from the right neighbour's first row, in row 1.
  * send cells `snd false c`, `snd true c`: credited by `c`'s own transfers to the left and to the right, which return
    the share of the row of `x` that was read.
  * four cells for copies inside the device, started and waited for by `c` alone.

  Order on each device: both signals, the copy in, the barrier's wait, both transfers, the copy's wait, the interior
  rows and their copy out, the receive waits, the two edge rows and their copies out, all the remaining waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-! ## Sides and neighbours

A side is a `Bool`: `false` is left, `true` is right. -/

/-- Device `c` has a neighbour on side `d`. -/
def Side (c : Dev nD) (d : Bool) : Prop := if d then c.val < 15 else 0 < c.val

/-- Whether there is a neighbour can be decided. -/
instance (c : Dev nD) (d : Bool) : Decidable (Side c d) := by unfold Side; infer_instance

set_option backward.proofsInPublic true in
/-- The device next to `c` on side `d`, counted around (only used where `Side c d`). -/
def nb (d : Bool) (c : Dev nD) : Dev nD := ⟨(c.val + if d then 1 else 15) % 16, Nat.mod_lt _ (by decide)⟩

/-- Going to one side and back. -/
theorem nb_back (d : Bool) (c : Dev nD) : nb (!d) (nb d c) = c := by revert d c; decide
/-- The neighbour on side `d` has its own neighbour on the other side exactly when there is a neighbour on side `d`. -/
theorem side_nb (d : Bool) (c : Dev nD) : Side (nb d c) (!d) ↔ Side c d := by revert d c; decide

/-- Stepping to side `d` is a permutation of the devices. -/
def turn (d : Bool) : Dev nD ≃ Dev nD :=
  ⟨nb d, nb (!d), nb_back d, fun c => by have h := nb_back (!d) c; rwa [Bool.not_not] at h⟩

/-! ## The printed conditions, device numbers and amounts -/

/-- The left signal is sent exactly where there is a left neighbour. -/
theorem cond1_iff (c : Dev nD) : k0_cond1 c = 1#1 ↔ Side c false := by revert c; decide +kernel
/-- The right signal is sent exactly where there is a right neighbour. -/
theorem cond2_iff (c : Dev nD) : k0_cond2 c = 1#1 ↔ Side c true := by revert c; decide +kernel
/-- The transfer to the left starts exactly where there is a left neighbour. -/
theorem cond3_iff (c : Dev nD) : k0_cond3 c = 1#1 ↔ Side c false := by revert c; decide +kernel
/-- The transfer to the right starts exactly where there is a right neighbour. -/
theorem cond4_iff (c : Dev nD) : k0_cond4 c = 1#1 ↔ Side c true := by revert c; decide +kernel

/-- The left signal goes to the left neighbour. -/
theorem dev1_nb (c : Dev nD) (h : k0_cond1 c = 1#1) : (⟨k0_dev1 c, k0_dev1_lt c h⟩ : Dev nD) = nb false c := by
  revert c; decide +kernel
/-- The right signal goes to the right neighbour. -/
theorem dev2_nb (c : Dev nD) (h : k0_cond2 c = 1#1) : (⟨k0_dev2 c, k0_dev2_lt c h⟩ : Dev nD) = nb true c := by
  revert c; decide +kernel
/-- The transfer to the left goes to the left neighbour. -/
theorem dev3_nb (c : Dev nD) (h : k0_cond3 c = 1#1) : (⟨k0_dev3 c, k0_dev3_lt c h⟩ : Dev nD) = nb false c := by
  revert c; decide +kernel
/-- The transfer to the right goes to the right neighbour. -/
theorem dev4_nb (c : Dev nD) (h : k0_cond4 c = 1#1) : (⟨k0_dev4 c, k0_dev4_lt c h⟩ : Dev nD) = nb true c := by
  revert c; decide +kernel

/-- The kernel's own word for "there is a left neighbour", read again at every later branch. -/
abbrev wL (c : Dev nD) : BitVec 1 := Scalar.cmpi .sgt (Scalar.remsi (Scalar.divsi (Dev.word c) 1#32) 16#32) 0#32
/-- The kernel's own word for "there is a right neighbour". -/
abbrev wR (c : Dev nD) : BitVec 1 := Scalar.cmpi .slt (Scalar.remsi (Scalar.divsi (Dev.word c) 1#32) 16#32) 15#32

/-- The kernel's word for a left neighbour says what it should. -/
theorem wL_iff (c : Dev nD) : wL c = 1#1 ↔ Side c false := by revert c; decide +kernel
/-- The kernel's word for a right neighbour says what it should. -/
theorem wR_iff (c : Dev nD) : wR c = 1#1 ↔ Side c true := by revert c; decide +kernel
/-- A later branch on the left word is taken exactly where there is a left neighbour. -/
theorem branchL_iff (c : Dev nD) : Scalar.cmpi .ne (Scalar.extui (wL c) : BitVec 32) 0#32 = 1#1 ↔ Side c false := by revert c; decide +kernel
/-- A later branch on the right word is taken exactly where there is a right neighbour. -/
theorem branchR_iff (c : Dev nD) : Scalar.cmpi .ne (Scalar.extui (wR c) : BitVec 32) 0#32 = 1#1 ↔ Side c true := by revert c; decide +kernel

/-- How many neighbours device `c` has. -/
def degree (c : Dev nD) : ℕ := (if Side c false then 1 else 0) + (if Side c true then 1 else 0)
/-- The barrier is awaited for as many units as there are neighbours. -/
theorem amt1_degree (c : Dev nD) : (k0_amt1 c).toInt = ((degree c : ℕ) : ℤ) := by revert c; decide +kernel

/-! ## Memrefs -/

/-- The device's input block, whole. -/
abbrev xM : Memref sig .tc .hbm S1024x512 .f32 := Memref.whole main_arg0
/-- The device's result block, whole. -/
abbrev oM : Memref sig .tc .hbm S1024x512 .f32 := Memref.whole main_v1
/-- The scratch copy of the input block. -/
abbrev xvM : Memref sig .tc .vmem S1024x512 .f32 := Memref.whole cc0_scratch0
/-- The scratch block the result is put together in. -/
abbrev yvM : Memref sig .tc .vmem S1024x512 .f32 := Memref.whole cc0_scratch1
/-- The halo buffer. -/
abbrev hM : Memref sig .tc .vmem S2x512 .f32 := Memref.whole cc0_scratch2

/-- Row 0 of a block. -/
abbrev rFirst : Rect S1024x512 := Rect.unit (s := S1024x512) ![0, 0] S1x512.size inb_S1024x512_S1x512_0_0
/-- Row 1023 of a block. -/
abbrev rLast : Rect S1024x512 := Rect.unit (s := S1024x512) ![1023, 0] S1x512.size inb_S1024x512_S1x512_1023_0
/-- Rows 1 to 1022. -/
abbrev rInner : Rect S1024x512 := Rect.unit (s := S1024x512) ![1, 0] S1022x512.size inb_S1024x512_S1022x512_1_0
/-- The large band copied out: rows 8–1015. -/
abbrev rBody : Rect S1024x512 := Rect.unit (s := S1024x512) ![8, 0] S1008x512.size inb_S1024x512_S1008x512_8_0
/-- The last band copied out: rows 1016–1023. -/
abbrev rTail : Rect S1024x512 := Rect.unit (s := S1024x512) ![1016, 0] S8x512.size inb_S1024x512_S8x512_1016_0
/-- The halo buffer's first row. -/
abbrev hRow0 : Rect S2x512 := Rect.unit (s := S2x512) ![0, 0] S1x512.size inb_S2x512_S1x512_0_0
/-- The halo buffer's second row. -/
abbrev hRow1 : Rect S2x512 := Rect.unit (s := S2x512) ![1, 0] S1x512.size inb_S2x512_S1x512_1_0
/-- The whole block. -/
abbrev rAll : Rect S1024x512 := Rect.unit (s := S1024x512) ![0, 0] S1024x512.size inb_S1024x512_S1024x512_0_0

/-- The input's first row, as a transfer names it. -/
abbrev xFirst : Memref sig .tc .hbm S1x512 .f32 := xM.slice rFirst (fun _ => rfl)
/-- The input's last row. -/
abbrev xLast : Memref sig .tc .hbm S1x512 .f32 := xM.slice rLast (fun _ => rfl)
/-- The halo buffer's first row, as a transfer names it. -/
abbrev h0M : Memref sig .tc .vmem S1x512 .f32 := hM.slice hRow0 (fun _ => rfl)
/-- The halo buffer's second row. -/
abbrev h1M : Memref sig .tc .vmem S1x512 .f32 := hM.slice hRow1 (fun _ => rfl)

/-! ## Semaphores and cells -/

/-- The barrier between neighbours. -/
abbrev barS : Sem sig := (SemArray.scalar (sig.barrier 0 rfl) : Sems sig S_).sem
/-- The send semaphore of the transfer to the left. -/
abbrev snd0S : DmaSem sig := ((cc0_scratch3.slice (Rect.unit (s := S2) ![0] S1.size inb_S2_S1_0)).squeeze S_ squeezes_S1_S_).sem
/-- The send semaphore of the transfer to the right. -/
abbrev snd1S : DmaSem sig := ((cc0_scratch3.slice (Rect.unit (s := S2) ![1] S1.size inb_S2_S1_1)).squeeze S_ squeezes_S1_S_).sem
/-- The receive semaphore of the row from the left. -/
abbrev rcv0S : DmaSem sig := ((cc0_scratch4.slice (Rect.unit (s := S2) ![0] S1.size inb_S2_S1_0)).squeeze S_ squeezes_S1_S_).sem
/-- The receive semaphore of the row from the right. -/
abbrev rcv1S : DmaSem sig := ((cc0_scratch4.slice (Rect.unit (s := S2) ![1] S1.size inb_S2_S1_1)).squeeze S_ squeezes_S1_S_).sem
/-- The semaphore of the copy into scratch. -/
abbrev inS : DmaSem sig := ((cc0_scratch5.slice (Rect.unit (s := S4) ![0] S1.size inb_S4_S1_0)).squeeze S_ squeezes_S1_S_).sem
/-- The semaphore of the large band's copy out. -/
abbrev bodyS : DmaSem sig := ((cc0_scratch5.slice (Rect.unit (s := S4) ![1] S1.size inb_S4_S1_1)).squeeze S_ squeezes_S1_S_).sem
/-- The semaphore of the first band's copy out. -/
abbrev headS : DmaSem sig := ((cc0_scratch5.slice (Rect.unit (s := S4) ![2] S1.size inb_S4_S1_2)).squeeze S_ squeezes_S1_S_).sem
/-- The semaphore of the last band's copy out. -/
abbrev tailS : DmaSem sig := ((cc0_scratch5.slice (Rect.unit (s := S4) ![3] S1.size inb_S4_S1_3)).squeeze S_ squeezes_S1_S_).sem

/-- The semaphore the transfer to side `d` returns its source on. -/
abbrev sndS : Bool → DmaSem sig | false => snd0S | true => snd1S
/-- The semaphore the transfer from side `d` arrives on. -/
abbrev rcvS : Bool → DmaSem sig | false => rcv0S | true => rcv1S

/-- Device `c`'s barrier cell. -/
abbrev bar (c : Dev nD) : GSem nD τ sig := ((c : Thread nD τ), .reg barS)
/-- Device `c`'s send cell of side `d`. -/
abbrev snd (d : Bool) (c : Dev nD) : GSem nD τ sig := ((c : Thread nD τ), .dma (sndS d))
/-- Device `c`'s receive cell of side `d`. -/
abbrev rcv (d : Bool) (c : Dev nD) : GSem nD τ sig := ((c : Thread nD τ), .dma (rcvS d))

/-- The row of `x` the transfer to side `d` reads: the first to the left, the last to the right. -/
abbrev edgeRect (d : Bool) : Rect S1024x512 :=
  Rect.unit (s := S1024x512) ![cond d 1023 0, 0] S1x512.size (by cases d <;> first | exact inb_S1024x512_S1x512_0_0 | exact inb_S1024x512_S1x512_1023_0)
/-- That row as a transfer names it. -/
abbrev edge (d : Bool) : Memref sig .tc .hbm S1x512 .f32 := xM.slice (edgeRect d) (fun _ => rfl)
/-- The row of the halo buffer that receives from side `d`. -/
abbrev hRect (d : Bool) : Rect S2x512 :=
  Rect.unit (s := S2x512) ![cond d 1 0, 0] S1x512.size (by cases d <;> first | exact inb_S2x512_S1x512_0_0 | exact inb_S2x512_S1x512_1_0)
/-- That row as a transfer names it. -/
abbrev hrow (d : Bool) : Memref sig .tc .vmem S1x512 .f32 := hM.slice (hRect d) (fun _ => rfl)

/-- The credit of one row of the halo buffer: what each transfer between devices adds. -/
def rowN : ℕ := h0M.view.dmaCredit
/-- It is not zero. -/
theorem rowN_pos : 0 < rowN := View.dmaCredit_pos _ (by decide)
/-- Both halo rows have this credit. -/
theorem rowN_hrow (d : Bool) : (hrow d).view.dmaCredit = rowN := by cases d <;> rfl
/-- A row of `x` has the same credit: the send waits name it as their destination. -/
theorem rowN_edge (d : Bool) : (edge d).view.dmaCredit = rowN := by cases d <;> decide +kernel

end Cert.Stencil

end
-- ==== Proof.Contents.lean ====
/-
  # What the buffers hold

  Device `c`'s block `xAt`, what its halo buffer holds once both neighbours' rows are in (`haloAt`), and what its
  result block holds (`yAt`), with the facts that a landed row, a stored band of rows and a loaded row are those.
-/
module

public import proofs.«01_k».proof.Proof.Mesh

@[expose] public section

noncomputable section

namespace Cert.Stencil

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- Contents of a block. -/
abbrev Blk (F : FTy → Type) : Type := S1024x512.Idx → Elt F .f32
/-- Contents of the halo buffer. -/
abbrev Hal (F : FTy → Type) : Type := S2x512.Idx → Elt F .f32

/-- Device `c`'s block of the input at launch. -/
def xAt (c : Dev nD) : Blk F := m ((c : Thread nD τ).loc main_arg0)

/-- Row `r`, column `j` of a block. -/
abbrev at2 (r : Fin 1024) (j : Fin 512) : S1024x512.Idx := Shape.pair (d := ![1024, 512]) r j

/-- The halo buffer with both rows in: row 0 the left neighbour's last row, row 1 the right neighbour's first row. -/
def haloAt (c : Dev nD) : Hal F := fun i =>
  if (i 0).val = 0 then xAt m (nb false c) (at2 1023 (i 1)) else xAt m (nb true c) (at2 0 (i 1))

/-- The two rows of halo contents, as the kernel loads them. -/
abbrev haloRow (d : Bool) (h : Hal F) : S1x512.Idx → Elt F .f32 := (hrow d).view.read (Elt F) h

/-- Two indices of a block are equal when their coordinates are. -/
theorem idx_ext {a b : ℕ} {i j : (⟨2, ![a, b]⟩ : Shape).Idx} (h0 : (i 0).val = (j 0).val) (h1 : (i 1).val = (j 1).val) : i = j := by
  funext x; apply Fin.ext
  rcases x with ⟨_ | _ | n, hx⟩
  · exact h0
  · exact h1
  · exact absurd hx (by simp)

omit [FloatOps F] in
/-- The first halo row is the left neighbour's last row. -/
theorem haloAt_left (c : Dev nD) (i : S2x512.Idx) (h : (i 0).val = 0) : haloAt m c i = xAt m (nb false c) (at2 1023 (i 1)) := if_pos h
omit [FloatOps F] in
/-- The second halo row is the right neighbour's first row. -/
theorem haloAt_right (c : Dev nD) (i : S2x512.Idx) (h : ¬ (i 0).val = 0) : haloAt m c i = xAt m (nb true c) (at2 0 (i 1)) := if_neg h

omit [FloatOps F] in
/-- A transfer from the neighbour on side `d` leaves `haloAt` in the row it writes. -/
theorem landed (d : Bool) (c : Dev nD) (fd : Hal F) :
    ∀ i ∈ (hrow d).view.set, (hrow d).view.write (Elt F) fd ((edge (!d)).view.read (Elt F) (xAt m (nb d c))) Finset.univ i = haloAt m c i := by
  intro i hi
  cases d with
  | false =>
    obtain ⟨j, -, rfl⟩ := Finset.mem_map.mp hi
    rw [View.write_emb_of_mem _ _ (Finset.mem_univ _)]
    have h0 : (j 0).val = 0 := Nat.lt_one_iff.mp (j 0).isLt
    refine Eq.trans ?_ (haloAt_left m c _ (by show 0 + 1 * (j 0).val = 0; omega)).symm
    show xAt m (nb false c) _ = _
    congr 1
    exact idx_ext (by show 1023 + 1 * (j 0).val = 1023; omega) rfl
  | true =>
    obtain ⟨j, -, rfl⟩ := Finset.mem_map.mp hi
    rw [View.write_emb_of_mem _ _ (Finset.mem_univ _)]
    have h0 : (j 0).val = 0 := Nat.lt_one_iff.mp (j 0).isLt
    refine Eq.trans ?_ (haloAt_right m c _ (by show ¬ 1 + 1 * (j 0).val = 0; omega)).symm
    show xAt m (nb true c) _ = _
    congr 1
    exact idx_ext (by show 0 + 1 * (j 0).val = 0; omega) rfl

/-! ## The result -/

/-- The interior rows: a quarter of the rows above and below, and half the row itself. -/
abbrev innerOf (x : Blk F) : S1022x512.Idx → Elt F .f32 := k0_pay4 (k0_pay1 x) (k0_pay2 x) k0_pay3
/-- The first row, from the halo row above it. -/
abbrev firstOf (c : Dev nD) (x : Blk F) (top : S1x512.Idx → Elt F .f32) : S1x512.Idx → Elt F .f32 := k0_pay5 (wL c) x top
/-- The last row, from the halo row below it. -/
abbrev lastOf (c : Dev nD) (x : Blk F) (bot : S1x512.Idx → Elt F .f32) : S1x512.Idx → Elt F .f32 :=
  k0_pay9 (wR c) x bot (k0_pay6 x) (k0_pay7 x) k0_pay8

/-- Row `r` (counted from 0), column `j` of a band of `n` rows. -/
abbrev inBand (n r : ℕ) (h : r < n) (j : Fin 512) : (⟨2, ![n, 512]⟩ : Shape).Idx := Shape.pair (d := ![n, 512]) ⟨r, h⟩ j

/-- What device `c` computes. -/
def yAt (c : Dev nD) : Blk F := fun i =>
  if h0 : (i 0).val = 0 then firstOf c (xAt m c) (haloRow false (haloAt m c)) (inBand 1 0 (by decide) (i 1))
  else if h1 : (i 0).val = 1023 then lastOf c (xAt m c) (haloRow true (haloAt m c)) (inBand 1 0 (by decide) (i 1))
  else innerOf (xAt m c) (inBand 1022 ((i 0).val - 1) (by have : (i 0).val < 1024 := (i 0).isLt; omega) (i 1))

/-- Where there is no left neighbour the first row does not depend on the halo row. -/
theorem firstOf_edge (c : Dev nD) (h : ¬ Side c false) (x : Blk F) (t t' : S1x512.Idx → Elt F .f32) : firstOf c x t = firstOf c x t' := by
  have hw : ¬ wL c = (1 : BitVec 1) := fun e => h ((wL_iff c).mp e)
  unfold firstOf k0_pay5
  unfold Scalar.select
  dsimp only; rw [if_neg hw, if_neg hw]

/-- Where there is no right neighbour the last row does not depend on the halo row. -/
theorem lastOf_edge (c : Dev nD) (h : ¬ Side c true) (x : Blk F) (t t' : S1x512.Idx → Elt F .f32) : lastOf c x t = lastOf c x t' := by
  have hw : ¬ wR c = (1 : BitVec 1) := fun e => h ((wR_iff c).mp e)
  unfold lastOf k0_pay9
  unfold Scalar.select
  dsimp only; rw [if_neg hw, if_neg hw]

omit [FloatOps F] in
/-- Halo contents that agree on a row are loaded alike. -/
theorem haloRow_congr (d : Bool) (h h' : Hal F) (e : ∀ i ∈ (hrow d).view.set, h i = h' i) : haloRow d h = haloRow d h' :=
  View.read_congr e

/-! ## A stored band of rows -/

/-- A store of the rows `a … a + n - 1` reads back: inside the band the payload, outside it what was there. -/
theorem stored_in {a n : ℕ} (inb : ∀ x, (![a, 0] : Fin 2 → ℕ) x + (![n, 512] : Fin 2 → ℕ) x ≤ S1024x512.size x)
    (f : Blk F) (w : (⟨2, ![n, 512]⟩ : Shape).Idx → Elt F .f32) (i : S1024x512.Idx) (hlo : a ≤ (i 0).val) (hhi : (i 0).val - a < n) :
    (yvM.access (Rect.unit (s := S1024x512) ![a, 0] ![n, 512] inb)).write (Elt F) f w Finset.univ i = w (inBand n ((i 0).val - a) hhi (i 1)) := by
  have hi : i = (yvM.access (Rect.unit (s := S1024x512) ![a, 0] ![n, 512] inb)).emb (inBand n ((i 0).val - a) hhi (i 1)) :=
    idx_ext (by show (i 0).val = a + 1 * ((i 0).val - a); omega) (by show (i 1).val = 0 + 1 * (i 1).val; omega)
  conv_lhs => rw [hi]
  rw [View.write_emb_of_mem _ _ (Finset.mem_univ _)]; rfl

/-- Outside the band a store leaves what was there. -/
theorem stored_out {a n : ℕ} (inb : ∀ x, (![a, 0] : Fin 2 → ℕ) x + (![n, 512] : Fin 2 → ℕ) x ≤ S1024x512.size x)
    (f : Blk F) (w : (⟨2, ![n, 512]⟩ : Shape).Idx → Elt F .f32) (i : S1024x512.Idx) (h : (i 0).val < a ∨ a + n ≤ (i 0).val) :
    (yvM.access (Rect.unit (s := S1024x512) ![a, 0] ![n, 512] inb)).write (Elt F) f w Finset.univ i = f i := by
  refine View.write_of_not_mem _ _ _ fun hm => ?_
  obtain ⟨j, -, hj⟩ := Finset.mem_map.mp hm
  have e : a + 1 * (j 0).val = (i 0).val := congrArg (fun t : S1024x512.Idx => (t 0).val) hj
  have : (j 0).val < n := (j 0).isLt
  omega

end Cert.Stencil

end
-- ==== Proof.Schedule.lean ====
/-
  # The schedule of raises

  One round per cell.  A duty is named by the side of `c` it concerns: `false` the left neighbour, `true` the right.
  Each cell's duties exist only where that neighbour does.
-/
module

public import proofs.«01_k».proof.Proof.Contents

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the cells between devices, and beside them the counters of the copies inside a device. -/
abbrev UB : Type := URounds (GSem nD τ sig) Bool
/-- Everything the proof counts: the pipeline's part, the rounds and the counters. -/
abbrev UU : Type := UR sig nD τ × (UB × Counters)

local notation "𝕄" => MT nD τ sig Unit (Elt F) ℕ UU ℕ

/-- Where the pipeline's part lives. -/
abbrev EP : Emb (UR sig nD τ) (MT nD τ sig Unit (Elt F) ℕ UU ℕ) := embL
/-- Where the rounds live: the left part of the second component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The rounds live in the user part of the resources. -/
instance ER_lands : (ER : Emb UB 𝕄).LandsIn (upEmb : UEmb _ 𝕄) := by unfold ER; infer_instance

variable (m : (ℓ : Loc nD τ sig) → Buf (Elt F) ℓ)

/-! ## What the raises hand over -/

/-- Row `d` of device `c`'s halo buffer, holding `f`. -/
def hPts (d : Bool) (c : Dev nD) (f : Hal F) : sProp 𝕄 :=
  (hrow d).view.loc (c : Thread nD τ) ↦[(hrow d).view.set]{fullShare} f
/-- The row of `x` sent to side `d`, at the half of the ownership that travels with the transfers. -/
def ePts (d : Bool) (c : Dev nD) : sProp 𝕄 :=
  (edge d).view.loc (c : Thread nD τ) ↦[(edge d).view.set]{fullShare.right} xAt m c

omit [FloatOps F] in
/-- A halo row's ownership may be kept in an invariant. -/
instance hPts_storable (d : Bool) (c : Dev nD) (f) : BI.Storable (upEmb : UEmb _ 𝕄) (hPts (F := F) d c f) := by unfold hPts; infer_instance
omit [FloatOps F] in
/-- So may an edge row's. -/
instance ePts_storable (d : Bool) (c : Dev nD) : BI.Storable (upEmb : UEmb _ 𝕄) (ePts (F := F) m d c) := by unfold ePts; infer_instance

/-- The barrier's payload: the halo row, on the neighbour, that device `c` may write. -/
def barPay (d : Bool) (c : Dev nD) : sProp 𝕄 := iprop(∃ f, hPts (!d) (nb d c) f)
/-- The arrival's payload: the halo row with the neighbour's row in it. -/
def rcvPay (d : Bool) (c : Dev nD) : sProp 𝕄 := hPts d c (haloAt m c)

/-- Which of device `c`'s semaphores have a raise concerning side `d`. -/
def Live (d : Bool) (c : Dev nD) (sm : SemLoc sig) : Prop := Side c d ∧ (sm = .reg barS ∨ sm = .dma (sndS d) ∨ sm = .dma (rcvS d))
/-- Whether a semaphore is so concerned can be decided. -/
instance (d : Bool) (c : Dev nD) (sm : SemLoc sig) : Decidable (Live d c sm) := by unfold Live; infer_instance

/-- The schedule. -/
def sched : Rounds.Schedule (GSem nD τ sig) Bool 𝕄 where
  duties g r := if r = 0 ∧ g.1.2 = .tc then Finset.univ.filter (fun d => Live d g.1.1 g.2) else ∅
  unitless _ := False
  amount g _ _ := if g.2 = .reg barS then 1 else rowN
  payload g _ d :=
    if g.2 = .reg barS then barPay d g.1.1
    else if g.2 = .dma (rcvS d) then rcvPay m d g.1.1
    else if g.2 = .dma (sndS d) then ePts m d g.1.1
    else iprop(emp)
  amount_pos g _ _ _ := by
    by_cases h : g.2 = .reg barS
    · rw [if_pos h]; exact Nat.one_pos
    · rw [if_neg h]; exact rowN_pos

/-- Every payload of the schedule may be kept in an invariant. -/
instance sched_storable (g : GSem nD τ sig) (r : ℕ) (d : Bool) : BI.Storable (upEmb : UEmb _ 𝕄) ((sched (F := F) m).payload g r d) := by
  show BI.Storable upEmb (if g.2 = .reg barS then barPay d g.1.1 else if g.2 = .dma (rcvS d) then rcvPay m d g.1.1
    else if g.2 = .dma (sndS d) then ePts m d g.1.1 else iprop(emp))
  unfold barPay rcvPay
  (repeat' split) <;> infer_instance

/-! ## The schedule read off at each cell -/

/-- A send semaphore is not the barrier. -/
theorem snd_ne_bar (d : Bool) : (SemLoc.dma (sndS d) : SemLoc sig) ≠ .reg barS := fun h => by cases h
/-- A receive semaphore is not the barrier. -/
theorem rcv_ne_bar (d : Bool) : (SemLoc.dma (rcvS d) : SemLoc sig) ≠ .reg barS := fun h => by cases h
/-- A send semaphore is not a receive semaphore. -/
theorem snd_ne_rcv (d e : Bool) : (SemLoc.dma (sndS d) : SemLoc sig) ≠ .dma (rcvS e) := by revert d e; decide
/-- The two send semaphores differ. -/
theorem snd_inj (d e : Bool) (h : (SemLoc.dma (sndS d) : SemLoc sig) = .dma (sndS e)) : d = e := by revert d e; decide
/-- The two receive semaphores differ. -/
theorem rcv_inj (d e : Bool) (h : (SemLoc.dma (rcvS d) : SemLoc sig) = .dma (rcvS e)) : d = e := by revert d e; decide

variable (c : Dev nD) (d : Bool)

omit [FloatOps F] in
/-- The barrier is raised once for every neighbour there is. -/
theorem duties_bar : (sched (F := F) m).duties (bar c) 0 = Finset.univ.filter (fun d => Side c d) := by
  dsimp only [sched]; rw [if_pos ⟨rfl, rfl⟩]
  exact Finset.filter_congr fun d _ => ⟨fun h => h.1, fun h => ⟨h, .inl rfl⟩⟩
omit [FloatOps F] in
/-- The send semaphore of side `d` is raised once, if there is a neighbour on that side. -/
theorem duties_snd : (sched (F := F) m).duties (snd d c) 0 = if Side c d then {d} else ∅ := by
  dsimp only [sched]; rw [if_pos ⟨rfl, rfl⟩]
  ext e
  rw [Finset.mem_filter]
  constructor
  · rintro ⟨-, hs, h | h | h⟩
    · exact absurd h (snd_ne_bar d)
    · obtain rfl := snd_inj _ _ h; rw [if_pos hs]; exact Finset.mem_singleton_self _
    · exact absurd h (snd_ne_rcv d e)
  · intro h
    by_cases hs : Side c d
    · rw [if_pos hs] at h; obtain rfl := Finset.mem_singleton.mp h
      exact ⟨Finset.mem_univ _, hs, .inr (.inl rfl)⟩
    · rw [if_neg hs] at h; exact absurd h (Finset.notMem_empty _)
omit [FloatOps F] in
/-- The receive semaphore of side `d` is raised once, if there is a neighbour on that side. -/
theorem duties_rcv : (sched (F := F) m).duties (rcv d c) 0 = if Side c d then {d} else ∅ := by
  dsimp only [sched]; rw [if_pos ⟨rfl, rfl⟩]
  ext e
  rw [Finset.mem_filter]
  constructor
  · rintro ⟨-, hs, h | h | h⟩
    · exact absurd h (rcv_ne_bar d)
    · exact absurd h.symm (snd_ne_rcv e d)
    · obtain rfl := rcv_inj _ _ h; rw [if_pos hs]; exact Finset.mem_singleton_self _
  · intro h
    by_cases hs : Side c d
    · rw [if_pos hs] at h; obtain rfl := Finset.mem_singleton.mp h
      exact ⟨Finset.mem_univ _, hs, .inr (.inr rfl)⟩
    · rw [if_neg hs] at h; exact absurd h (Finset.notMem_empty _)
omit [FloatOps F] in
/-- No cell has a second round. -/
theorem duties_after (g : GSem nD τ sig) : ∀ r, 1 ≤ r → (sched (F := F) m).duties g r = ∅ :=
  fun r hr => by dsimp only [sched]; rw [if_neg fun h => by omega]

omit [FloatOps F] in
/-- A raise of the barrier is of one unit. -/
theorem amount_bar (e : Bool) : (sched (F := F) m).amount (bar c) 0 e = 1 := by dsimp only [sched]; exact if_pos rfl
omit [FloatOps F] in
/-- A raise of a send semaphore is a row's credit. -/
theorem amount_snd (e : Bool) : (sched (F := F) m).amount (snd d c) 0 e = rowN := by dsimp only [sched]; exact if_neg (snd_ne_bar d)
omit [FloatOps F] in
/-- A raise of a receive semaphore is a row's credit. -/
theorem amount_rcv (e : Bool) : (sched (F := F) m).amount (rcv d c) 0 e = rowN := by dsimp only [sched]; exact if_neg (rcv_ne_bar d)

omit [FloatOps F] in
/-- The barrier gathers one unit for every neighbour. -/
theorem expect_bar : (sched (F := F) m).expect (bar c) 0 = degree c := by
  unfold Schedule.expect Schedule.amountOf
  rw [duties_bar, Finset.sum_congr rfl fun e _ => amount_bar m c e, Finset.sum_filter, Fintype.sum_bool, add_comm]; rfl
omit [FloatOps F] in
/-- A send semaphore gathers a row's credit. -/
theorem expect_snd (h : Side c d) : (sched (F := F) m).expect (snd d c) 0 = rowN := by
  unfold Schedule.expect Schedule.amountOf; rw [duties_snd, if_pos h, Finset.sum_singleton, amount_snd]
omit [FloatOps F] in
/-- A receive semaphore gathers a row's credit. -/
theorem expect_rcv (h : Side c d) : (sched (F := F) m).expect (rcv d c) 0 = rowN := by
  unfold Schedule.expect Schedule.amountOf; rw [duties_rcv, if_pos h, Finset.sum_singleton, amount_rcv]

omit [FloatOps F] in
/-- A raise of the barrier brings the neighbour's halo row. -/
theorem payload_bar : (sched (F := F) m).payload (bar c) 0 d = barPay d c := by dsimp only [sched]; exact if_pos rfl
omit [FloatOps F] in
/-- A raise of a receive semaphore brings the own halo row, filled. -/
theorem payload_rcv : (sched (F := F) m).payload (rcv d c) 0 d = rcvPay m d c := by
  dsimp only [sched]; rw [if_neg (rcv_ne_bar d), if_pos rfl]
omit [FloatOps F] in
/-- A raise of a send semaphore brings back the edge row of `x`. -/
theorem payload_snd : (sched (F := F) m).payload (snd d c) 0 d = ePts m d c := by
  dsimp only [sched]; rw [if_neg (snd_ne_bar d), if_neg (snd_ne_rcv d d), if_pos rfl]

/-- What a device has of its neighbour's halo row after the barrier: the row, if there is a neighbour. -/
def got : sProp 𝕄 := if Side c d then barPay d c else iprop(emp)

omit [FloatOps F] in
/-- All that the barrier brings: for each side what `got` says. -/
theorem rest_bar : bigSep ((sched (F := F) m).duties (bar c) 0 \ ∅) (fun e => (sched (F := F) m).payload (bar c) 0 e)
    = iprop(got c false ∗ got c true) := by
  rw [Finset.sdiff_empty, duties_bar, bigSep_filter, bigSep_univ_eq_bigSepL [false, true] (by decide) (by decide), bigSepL_cons_cons, bigSepL_singleton,
    payload_bar, payload_bar]
  rfl
omit [FloatOps F] in
/-- All that a send semaphore brings. -/
theorem rest_snd (h : Side c d) :
    bigSep ((sched (F := F) m).duties (snd d c) 0 \ ∅) (fun e => (sched (F := F) m).payload (snd d c) 0 e) = ePts m d c := by
  rw [Finset.sdiff_empty, duties_snd, if_pos h, bigSep_singleton, payload_snd]
omit [FloatOps F] in
/-- All that a receive semaphore brings. -/
theorem rest_rcv (h : Side c d) :
    bigSep ((sched (F := F) m).duties (rcv d c) 0 \ ∅) (fun e => (sched (F := F) m).payload (rcv d c) 0 e) = rcvPay m d c := by
  rw [Finset.sdiff_empty, duties_rcv, if_pos h, bigSep_singleton, payload_rcv]

/-! ## What each device owes, and the order of the waits -/

/-- One unit at the barrier of the neighbour on side `d`, if there is one. -/
def oweBar (d : Bool) (c : Dev nD) : CellTallies nD τ sig Unit := tallyAt (bar (nb d c)) () (if Side c d then 1 else 0)
/-- A row's credit at the receive cell of the neighbour on side `d`, if there is one. -/
def oweRow (d : Bool) (c : Dev nD) : CellTallies nD τ sig Unit := tallyAt (rcv (!d) (nb d c)) () (if Side c d then rowN else 0)

/-- What is left to pay after both signals. -/
def O₁ (c : Dev nD) : CellTallies nD τ sig Unit := (0 + oweRow true c) + oweRow false c
/-- What device `c` owes at launch, in the order it is paid from the right. -/
def O₀ (c : Dev nD) : CellTallies nD τ sig Unit := (O₁ c + oweBar true c) + oweBar false c

/-- Every TensorCore's cell has its one index. -/
def L (g : GSem nD τ sig) : Finset Unit := if g.1.2 = .tc then {()} else ∅
/-- Barriers come before arrivals. -/
def lv (g : GSem nD τ sig) (_ : Unit) : ℕ := if g.2 = .reg barS then 1 else if g.2 = .dma rcv0S ∨ g.2 = .dma rcv1S then 2 else 0

/-- A cell of another thread has no index. -/
theorem L_of_ne (g : GSem nD τ sig) (h : g.1.2 ≠ .tc) : L g = ∅ := if_neg h
/-- A TensorCore's cell has one index. -/
theorem L_tc (c : Dev nD) (sm : SemLoc sig) : L ((c : Thread nD τ), sm) = {()} := if_pos rfl
/-- The barrier's level. -/
theorem lv_bar (c : Dev nD) : lv (bar c) () = 1 := if_pos rfl
/-- The level of an arrival. -/
theorem lv_rcv (d : Bool) (c : Dev nD) : lv (rcv d c) () = 2 := by
  unfold lv; rw [if_neg (rcv_ne_bar d), if_pos (by cases d <;> simp)]

/-- What is owed of a row is owed at the neighbour's receive cell only. -/
theorem oweRow_pos {d : Bool} {c : Dev nD} {g : GSem nD τ sig} {u : Unit} (h : 0 < oweRow d c g u) : g = rcv (!d) (nb d c) := by
  unfold oweRow at h
  rw [tallyAt_apply] at h
  by_contra hn
  rw [if_neg (fun h' => hn h'.1)] at h
  exact Nat.lt_irrefl 0 h
/-- After both signals only arrivals are owed. -/
theorem O₁_pos {c : Dev nD} {g : GSem nD τ sig} {u : Unit} (h : 0 < O₁ c g u) : ∃ d, g = rcv (!d) (nb d c) := by
  unfold O₁ at h
  rw [zero_add, Pi.add_apply, Finsupp.add_apply] at h
  rcases Nat.eq_zero_or_pos (oweRow true c g u) with h0 | h0
  · exact ⟨false, oweRow_pos (u := u) (by omega)⟩
  · exact ⟨true, oweRow_pos h0⟩

omit [FloatOps F] in
/-- At its barrier a device owes only arrivals, which come later. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, rfl⟩ := O₁_pos hg; rw [L_tc]; exact Finset.mem_singleton_self _)
    (fun p hp => by rw [Finset.mem_singleton.mp hp]; exact (lv_bar c).le)
    (fun g u hg => by obtain ⟨d, rfl⟩ := O₁_pos hg; cases u; rw [lv_rcv]; decide)

end Cert.Stencil

end
-- ==== Proof.Steps.lean ====
/-
  # One rule for each thing a device does about a side

  Signal, send, wait for the arrival, wait for the send's return: each is stated for a side `d`, once for a device that
  has that neighbour and once for one that has not, with the same resources before and after.
-/
module

public import proofs.«01_k».proof.Proof.Schedule

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the program needs a variant. -/
abbrev 𝒱₀ : Variants := Variants.none

variable (m : (ℓ : Loc nD τ sig) → Buf (Elt F) ℓ)

/-! ## The cells and their invariants -/

/-- The five semaphores of a device that take part between devices. -/
abbrev csem : Fin 5 → SemLoc sig := fun
  | 0 => .reg barS | 1 => .dma (sndS false) | 2 => .dma (sndS true) | 3 => .dma (rcvS false) | 4 => .dma (rcvS true)
/-- The cell of one of the five, on a device. -/
abbrev kcell (ck : Dev nD × Fin 5) : GSem nD τ sig := ((ck.1 : Thread nD τ), csem ck.2)
/-- The place of the send semaphore of side `d`. -/
abbrev sIx (d : Bool) : Fin 5 := if d then 2 else 1
/-- The place of the receive semaphore of side `d`. -/
abbrev rIx (d : Bool) : Fin 5 := if d then 4 else 3

/-- Every cell's invariant, and that every cell is at its round. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

/-- The records can be used any number of times. -/
instance records_persistent (K : Dev nD × Fin 5 → ℕ) : BI.Persistent (records m K) := by unfold records; infer_instance

variable (K : Dev nD × Fin 5 → ℕ)

omit [FloatOps F] in
/-- One invariant out of all of them. -/
theorem inv_among (ck : Dev nD × Fin 5) : (bigSep Finset.univ fun ck : Dev nD × Fin 5 => (cellInv ER (sched m) (K ck) (kcell ck) : sProp 𝕄))
    ⊢ cellInv ER (sched m) (K ck) (kcell ck) := bigSep_elim (Finset.mem_univ ck)
omit [FloatOps F] in
/-- One cell's round out of all of them. -/
theorem reached_among (ck : Dev nD × Fin 5) : (bigSep Finset.univ fun ck : Dev nD × Fin 5 => (reached ER (kcell ck) 0 : sProp 𝕄))
    ⊢ reached ER (kcell ck) 0 := bigSep_elim (Finset.mem_univ ck)
omit [FloatOps F] in
/-- The records hold each cell's invariant, -/
theorem inv_at (ck : Dev nD × Fin 5) : records m K ⊢ cellInv ER (sched m) (K ck) (kcell ck) := by
  unfold records
  iintro ⟨H, -⟩
  iapply (inv_among m K ck); iexact H
omit [FloatOps F] in
/-- and that each cell is at its round. -/
theorem reached_at (ck : Dev nD × Fin 5) : records m K ⊢ reached ER (kcell ck) 0 := by
  unfold records
  iintro ⟨-, H⟩
  iapply (reached_among (F := F) ck); iexact H

omit [FloatOps F] in
/-- The barrier's invariant. -/
theorem inv_bar (c : Dev nD) : records m K ⊢ cellInv ER (sched m) (K (c, 0)) (bar c) := inv_at m K (c, 0)
omit [FloatOps F] in
/-- A send cell's invariant. -/
theorem inv_snd (d : Bool) (c : Dev nD) : records m K ⊢ cellInv ER (sched m) (K (c, sIx d)) (snd d c) := by
  cases d
  · exact inv_at m K (c, 1)
  · exact inv_at m K (c, 2)
omit [FloatOps F] in
/-- A receive cell's invariant. -/
theorem inv_rcv (d : Bool) (c : Dev nD) : records m K ⊢ cellInv ER (sched m) (K (c, rIx d)) (rcv d c) := by
  cases d
  · exact inv_at m K (c, 3)
  · exact inv_at m K (c, 4)
omit [FloatOps F] in
/-- The barrier is at its round. -/
theorem reached_bar (c : Dev nD) : records m K ⊢ reached ER (bar c) 0 := reached_at m K (c, 0)
omit [FloatOps F] in
/-- A send cell is at its round. -/
theorem reached_snd (d : Bool) (c : Dev nD) : records m K ⊢ reached ER (snd d c) 0 := by
  cases d
  · exact reached_at m K (c, 1)
  · exact reached_at m K (c, 2)
omit [FloatOps F] in
/-- A receive cell is at its round. -/
theorem reached_rcv (d : Bool) (c : Dev nD) : records m K ⊢ reached ER (rcv d c) 0 := by
  cases d
  · exact reached_at m K (c, 3)
  · exact reached_at m K (c, 4)

/-! ## A branch of the program -/

/-- Device `c`'s core runs the program `p` to its end and leaves what `Q` says of its result. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A branch with one continuation runs if its arm, where it is taken, and the continuation alone, where it is not, each
    turn `P` into `R`. -/
theorem wp_branch {c : Dev nD} {p : Prop} [Decidable p] {α : Type} {A : p → Prog (TpuEff nD τ sig (Elt F) Λ₀ .tc) α}
    {w : Prog (TpuEff nD τ sig (Elt F) Λ₀ .tc) α} {Q : α → sProp 𝕄} {P R : sProp 𝕄}
    (hA : ∀ h : p, P ⊢ iprop((R -∗ runs c w Q) -∗ runs c (A h) Q))
    (hB : ∀ h : ¬p, P ⊢ iprop((R -∗ runs c w Q) -∗ runs c w Q)) :
    P ⊢ iprop((R -∗ runs c w Q) -∗ runs c (dite p A fun _ => w) Q) := by
  by_cases h : p
  · rw [dif_pos h]; exact hA h
  · rw [dif_neg h]; exact hB h

variable (d : Bool) (c : Dev nD)

/-! ## The signal -/

/-- The halo row a device keeps: its own, where no neighbour writes it. -/
def kept (f : Hal F) : sProp 𝕄 := if Side c d then iprop(emp) else hPts d c f

/-- Before the signal to side `d`. -/
def sigPre (O : CellTallies nD τ sig Unit) (W : Waits sig Unit) (f : Hal F) : sProp 𝕄 :=
  iprop(records m K ∗ owes (c : Thread nD τ) (O + oweBar d c) W ∗ dutyTok ER (bar (nb d c)) 0 (!d) ∗ hPts d c f)
/-- After it. -/
def sigPost (O : CellTallies nD τ sig Unit) (W : Waits sig Unit) (f : Hal F) : sProp 𝕄 :=
  iprop(owes (c : Thread nD τ) O W ∗ kept d c f)

/-- The signal hands the neighbour this device's halo row. -/
theorem signal_some {α : Type} {Q : α → sProp 𝕄} {k : PUnit → Prog (TpuEff nD τ sig (Elt F) Λ₀ .tc) α}
    (hs : Side c d) {n : Dev nD} (hn : n = nb d c) (O : CellTallies nD τ sig Unit) (W : Waits sig Unit) (f : Hal F)
    {a : ℤ} (ha : a = ((1 : ℕ) : ℤ)) :
    sigPre m K d c O W f ⊢ iprop((sigPost d c O W f -∗ runs c (k ⟨⟩) Q)
      -∗ runs c (.op (.semSignal (n : Thread nD τ) barS a) k) Q) := by
  subst hn ha
  unfold sigPre sigPost kept oweBar
  rw [if_pos hs, if_pos hs]
  iintro ⟨#HR, HO, Ht, Hh⟩ Hk
  iapply (Rounds.wp_signal 𝒱₀ ER (sched m) (c : Thread nD τ) none (dst := (nb d c : Thread nD τ)) (κ := K (nb d c, 0)) (d := !d)
      (by rw [duties_bar]; exact Finset.mem_filter.mpr ⟨Finset.mem_univ _, (side_nb d c).mpr hs⟩) (amount_bar m (nb d c) (!d)) () O rfl) $$ [HO Ht Hh]
  · isplitr; · iapply (inv_bar m K (nb d c)); iexact HR
    isplitl [HO]; · iexact HO
    isplitl [Ht]; · iexact Ht
    isplitl [Hh]
    · rw [payload_bar]; unfold barPay; rw [nb_back, Bool.not_not]; iexists f; iexact Hh
    iapply (reached_bar m K (nb d c)); iexact HR
  iintro HO
  iapply Hk
  isplitl [HO]; · iexact HO
  iempintro

/-- Without a neighbour there is nothing to signal, and the row stays. -/
theorem signal_none (hs : ¬ Side c d) (O : CellTallies nD τ sig Unit) (W : Waits sig Unit) (f : Hal F) {w : sProp 𝕄} :
    sigPre m K d c O W f ⊢ iprop((sigPost d c O W f -∗ w) -∗ w) := by
  unfold sigPre sigPost kept oweBar
  rw [if_neg hs, if_neg hs, tallyAt_zero, add_zero]
  iintro ⟨-, HO, -, Hh⟩ Hk
  iapply Hk
  isplitl [HO] <;> iassumption

/-! ## The transfer -/

/-- What is lent to a transfer: the row of `x` itself where there is none, otherwise the right to wait for its return. -/
def lent : sProp 𝕄 := if Side c d then cred (tallyAt (snd d c) () rowN) else ePts m d c

/-- Before the transfer to side `d`. -/
def xferPre (O : CellTallies nD τ sig Unit) (W : Waits sig Unit) : sProp 𝕄 :=
  iprop(records m K ∗ got c d ∗ ePts m d c ∗ owes (c : Thread nD τ) (O + oweRow d c) W
    ∗ dutyTok ER (snd d c) 0 d ∗ dutyTok ER (rcv (!d) (nb d c)) 0 (!d))
/-- After it. -/
def xferPost (O : CellTallies nD τ sig Unit) (W : Waits sig Unit) : sProp 𝕄 :=
  iprop(owes (c : Thread nD τ) O W ∗ lent m d c)

/-- The transfer writes this device's edge row into the neighbour's halo row. -/
theorem xfer_some {α : Type} {Q : α → sProp 𝕄} {k : PUnit → Prog (TpuEff nD τ sig (Elt F) Λ₀ .tc) α}
    (hs : Side c d) {n : Dev nD} (hn : n = nb d c) (O : CellTallies nD τ sig Unit) (W : Waits sig Unit)
    {hsc : (hrow (!d) : Memref sig (Dev.tc n : Thread nD τ).2.kind .vmem S1x512 .f32).view.ref.isScScratch = false}
    {hsrc : (edge d).view.WordExact} {hdst : (hrow (!d)).view.WordExact}
    {hsem : DmaTarget.Typed .hbm (.dma (rcvS (!d))) (.remote (Dev.tc n : Thread nD τ) (hrow (!d) : Memref sig .tc .vmem S1x512 .f32) (.dma (sndS d)) hsc)} :
    xferPre m K d c O W ⊢ iprop((xferPost m d c O W -∗ runs c (k ⟨⟩) Q)
      -∗ runs c
          (.op (.enqueueDma (edge d) (.remote (Dev.tc n : Thread nD τ) (hrow (!d)) (.dma (sndS d)) hsc) (.dma (rcvS (!d))) hsrc hdst hsem) k) Q) := by
  subst hn
  unfold xferPre xferPost lent got oweRow
  rw [if_pos hs, if_pos hs, if_pos hs]
  unfold barPay ePts hPts
  iintro ⟨#HR, ⟨%fd, Hd⟩, Hx, HO, Ht, Ht'⟩ Hk
  iapply (Rounds.wp_send_pointsTo 𝒱₀ ER (sched m) (c : Thread nD τ) none (κ₁ := K (c, sIx d)) (κ₂ := K (nb d c, rIx (!d)))
    (r₁ := 0) (r₂ := 0) (d₁ := d) (d₂ := !d) (fd := fd)
    (by rw [duties_snd, if_pos hs]; exact Finset.mem_singleton_self _)
    (by rw [duties_rcv, if_pos ((side_nb d c).mpr hs)]; exact Finset.mem_singleton_self _)
    () () rowN (show (hrow (!d)).view.amount (.dma (rcvS (!d))) = rowN from rowN_hrow (!d)) (amount_snd m c d d) (amount_rcv m (nb d c) (!d) (!d)) O rfl (W := W)
    (by rw [payload_snd]; exact BI.Entails.refl _)
    (by
      rw [payload_rcv]; unfold rcvPay hPts
      refine Entails.of_eq (pointsTo_congr ?_)
      have h := landed m (!d) (nb d c) fd
      rw [nb_back, Bool.not_not] at h
      exact h)) $$ [Hd Hx HO Ht Ht']
  · isplitr; · iapply (inv_snd m K d c); iexact HR
    isplitr; · iapply (inv_rcv m K (!d) (nb d c)); iexact HR
    isplitl [Hx]; · iexact Hx
    isplitl [Hd]; · iexact Hd
    isplitl [HO]; · iexact HO
    isplitl [Ht]; · iexact Ht
    isplitr; · iapply (reached_snd m K d c); iexact HR
    isplitl [Ht']; · iexact Ht'
    iapply (reached_rcv m K (!d) (nb d c)); iexact HR
  iintro ⟨Hc, HO⟩
  iapply Hk
  isplitl [HO] <;> iassumption

/-- Without a neighbour there is no transfer. -/
theorem xfer_none (hs : ¬ Side c d) (O : CellTallies nD τ sig Unit) (W : Waits sig Unit) {w : sProp 𝕄} :
    xferPre m K d c O W ⊢ iprop((xferPost m d c O W -∗ w) -∗ w) := by
  unfold xferPre xferPost lent oweRow
  rw [if_neg hs, if_neg hs, tallyAt_zero, add_zero]
  iintro ⟨-, -, Hx, HO, -, -⟩ Hk
  iapply Hk
  isplitl [HO] <;> iassumption

/-! ## The arrival -/

/-- Before the wait for the arrival from side `d`. -/
def arrPre (f : Hal F) : sProp 𝕄 :=
  iprop(records m K ∗ atPos ER (rcv d c) 0 ∅ 0 ∗ cred (tallyAt (rcv d c) () (if Side c d then rowN else 0))
    ∗ (∃ W, owes (c : Thread nD τ) 0 W) ∗ kept d c f)
/-- After it: the halo row holds the neighbour's row, where there is a neighbour. -/
def arrPost : sProp 𝕄 :=
  iprop((∃ W, owes (c : Thread nD τ) 0 W) ∗ semVal (rcv d c) 0
    ∗ ∃ g, ⌜Side c d → ∀ i ∈ (hrow d).view.set, g i = haloAt m c i⌝ ∗ hPts d c g)

/-- The wait for the arrival. -/
theorem arrive_some {α : Type} {Q : α → sProp 𝕄} {k : PUnit → Prog (TpuEff nD τ sig (Elt F) Λ₀ .tc) α}
    (hs : Side c d) (f : Hal F) {sp : Space} {s : Shape} {e : EltTy} {src : Memref sig .tc sp s e}
    {hsrc : src.view.WordExact} {hdst : (hrow d).view.WordExact} :
    arrPre m K d c f ⊢ iprop((arrPost m d c -∗ runs c (k ⟨⟩) Q)
      -∗ runs c (.op (.waitDma2 (rcvS d) src (hrow d) hsrc hdst) k) Q) := by
  unfold arrPre arrPost
  rw [if_pos hs]
  iintro ⟨#HR, Hat, Hc, ⟨%W, HO⟩, -⟩ Hk
  iapply (Rounds.wp_wait_rest_token 𝒱₀ ER (sched m) (c : Thread nD τ) none (κ := K (c, rIx d))
      (wpE_waitDma2_eq 𝒱₀ (c : Thread nD τ) none Set.univ) (Set.mem_univ _) () (O := 0) (W := W) (R := 0) (m := 0) (T := ∅)
      (by rw [Nat.zero_add, expect_rcv m c d hs]; exact rowN_hrow d)) $$ [Hc HO Hat]
  · isplitr; · iapply (inv_rcv m K d c); iexact HR
    isplitl [Hc]; · iapply (Entails.of_eq (congrArg (fun n => (cred (tallyAt (rcv d c) () n) : sProp 𝕄)) (rowN_hrow d).symm)); iexact Hc
    isplitl [HO]; · iexact HO
    isplitr; · rw [MayWait_zero]; iempintro
    iexact Hat
  iintro ⟨HO, Hat, -, Hp⟩
  ihave Hh := (Entails.of_eq (rest_rcv m c d hs)) $$ Hp
  imod (Rounds.cell_close ER (sched m) (Set.mem_univ (K (c, rIx d))) (fun h => h) (R := 0 + 1) (duties_after m (rcv d c))) $$ [Hat] with Hz
  · isplitr; · iapply (inv_rcv m K d c); iexact HR
    iexact Hat
  iapply Hk
  isplitl [HO]; · iexists _; iexact HO
  isplitl [Hz]; · iexact Hz
  iexists (haloAt m c)
  isplitr; · ipureintro; exact fun _ _ _ => rfl
  unfold rcvPay; iexact Hh

/-- Without a neighbour the row holds what it held. -/
theorem arrive_none {α : Type} {Q : α → sProp 𝕄} (hs : ¬ Side c d) (f : Hal F) {p : Prog (TpuEff nD τ sig (Elt F) Λ₀ .tc) α} :
    arrPre m K d c f ⊢ iprop((arrPost m d c -∗ runs c p Q)
      -∗ runs c p Q) := by
  unfold arrPre arrPost kept
  rw [if_neg hs, if_neg hs]
  iintro ⟨#HR, Hat, -, HO, Hh⟩ Hk
  imod (Rounds.cell_close ER (sched m) (Set.mem_univ (K (c, rIx d))) (fun h => h) (R := 0) (fun r _ => by
      rcases Nat.eq_zero_or_pos r with rfl | h
      · rw [duties_rcv, if_neg hs]
      · exact duties_after m _ r h)) $$ [Hat] with Hz
  · isplitr; · iapply (inv_rcv m K d c); iexact HR
    iexact Hat
  iapply Hk
  isplitl [HO]; · iexact HO
  isplitl [Hz]; · iexact Hz
  iexists f
  isplitr; · ipureintro; exact fun h => absurd h hs
  iexact Hh

/-! ## The send's return -/

/-- Before the wait for the send to side `d`. -/
def retPre : sProp 𝕄 :=
  iprop(records m K ∗ atPos ER (snd d c) 0 ∅ 0 ∗ lent m d c ∗ (∃ W, owes (c : Thread nD τ) 0 W))
/-- After it: the row of `x` is back. -/
def retPost : sProp 𝕄 :=
  iprop((∃ W, owes (c : Thread nD τ) 0 W) ∗ semVal (snd d c) 0 ∗ ePts m d c)

/-- The wait for the send. -/
theorem return_some {α : Type} {Q : α → sProp 𝕄} {k : PUnit → Prog (TpuEff nD τ sig (Elt F) Λ₀ .tc) α}
    (hs : Side c d) {sp : Space} {s : Shape} {e : EltTy} {src : Memref sig .tc sp s e}
    {hsrc : src.view.WordExact} {hdst : (edge d).view.WordExact} :
    retPre m K d c ⊢ iprop((retPost m d c -∗ runs c (k ⟨⟩) Q)
      -∗ runs c (.op (.waitDma2 (sndS d) src (edge d) hsrc hdst) k) Q) := by
  unfold retPre retPost lent
  rw [if_pos hs]
  iintro ⟨#HR, Hat, Hc, ⟨%W, HO⟩⟩ Hk
  iapply (Rounds.wp_wait_rest_token 𝒱₀ ER (sched m) (c : Thread nD τ) none (κ := K (c, sIx d))
      (wpE_waitDma2_eq 𝒱₀ (c : Thread nD τ) none Set.univ) (Set.mem_univ _) () (O := 0) (W := W) (R := 0) (m := 0) (T := ∅)
      (by rw [Nat.zero_add, expect_snd m c d hs]; exact rowN_edge d)) $$ [Hc HO Hat]
  · isplitr; · iapply (inv_snd m K d c); iexact HR
    isplitl [Hc]; · iapply (Entails.of_eq (congrArg (fun n => (cred (tallyAt (snd d c) () n) : sProp 𝕄)) (rowN_edge d).symm)); iexact Hc
    isplitl [HO]; · iexact HO
    isplitr; · rw [MayWait_zero]; iempintro
    iexact Hat
  iintro ⟨HO, Hat, -, Hp⟩
  ihave Hh := (Entails.of_eq (rest_snd m c d hs)) $$ Hp
  imod (Rounds.cell_close ER (sched m) (Set.mem_univ (K (c, sIx d))) (fun h => h) (R := 0 + 1) (duties_after m (snd d c))) $$ [Hat] with Hz
  · isplitr; · iapply (inv_snd m K d c); iexact HR
    iexact Hat
  iapply Hk
  isplitl [HO]; · iexists _; iexact HO
  isplitl [Hz] <;> iassumption

/-- Without a neighbour the row was never lent. -/
theorem return_none {α : Type} {Q : α → sProp 𝕄} (hs : ¬ Side c d) {p : Prog (TpuEff nD τ sig (Elt F) Λ₀ .tc) α} :
    retPre m K d c ⊢ iprop((retPost m d c -∗ runs c p Q)
      -∗ runs c p Q) := by
  unfold retPre retPost lent
  rw [if_neg hs]
  iintro ⟨#HR, Hat, Hx, HO⟩ Hk
  imod (Rounds.cell_close ER (sched m) (Set.mem_univ (K (c, sIx d))) (fun h => h) (R := 0) (fun r _ => by
      rcases Nat.eq_zero_or_pos r with rfl | h
      · rw [duties_snd, if_neg hs]
      · exact duties_after m _ r h)) $$ [Hat] with Hz
  · isplitr; · iapply (inv_snd m K d c); iexact HR
    iexact Hat
  iapply Hk
  isplitl [HO]; · iexact HO
  isplitl [Hz] <;> iassumption

/-! ## The barrier -/

/-- The wait at the barrier, for as many units as there are neighbours: the neighbours' halo rows come with it, and the
    barrier is closed. -/
theorem barrier_wait {α : Type} {Q : α → sProp 𝕄} {k : PUnit → Prog (TpuEff nD τ sig (Elt F) Λ₀ .tc) α}
    (W : Waits sig Unit) {a : ℤ} (ha : a = ((degree c : ℕ) : ℤ)) :
    iprop(records m K ∗ atPos ER (bar c) 0 ∅ 0 ∗ cred (tallyAt (bar c) () (degree c)) ∗ levAts L lv ∗ owes (c : Thread nD τ) (O₁ c) W)
      ⊢ iprop((iprop((∃ W, owes (c : Thread nD τ) (O₁ c) W) ∗ semVal (bar c) 0 ∗ got c false ∗ got c true)
          -∗ runs c (k ⟨⟩) Q)
        -∗ runs c (.op (.semWait barS a) k) Q) := by
  subst ha
  iintro ⟨#HR, Hat, Hc, #Hlev, HO⟩ Hk
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_bar, Nat.zero_add])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hp⟩
  ihave Hh := (Entails.of_eq (rest_bar m c)) $$ Hp
  imod (Rounds.cell_close ER (sched m) (Set.mem_univ (K (c, 0))) (fun h => h) (R := 0 + 1) (duties_after m (bar c))) $$ [Hat] with Hz
  · isplitr; · iapply (inv_bar m K c); iexact HR
    iexact Hat
  iapply Hk
  isplitl [HO]; · iexists _; iexact HO
  isplitl [Hz] <;> iassumption

end Cert.Stencil

end
-- ==== Proof.Bands.lean ====
/-
  # The buffers cut into the pieces that travel apart

  A block is cut into rows 0–7, 8–1015 and 1016–1023, which are copied out one by one; the half of `x` that travels
  with the transfers is cut into its first row, its last row and the rest; the halo buffer is cut into its two rows.
-/
module

public import proofs.«01_k».proof.Proof.Schedule

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of rows -/

/-- The elements of a block in the rows `a … a + n - 1`. -/
def band (a n : ℕ) : Finset S1024x512.Idx := Finset.univ.filter fun i => a ≤ (i 0).val ∧ (i 0).val < a + n

/-- Membership in a band is a condition on the row. -/
theorem mem_band {a n : ℕ} {i : S1024x512.Idx} : i ∈ band a n ↔ a ≤ (i 0).val ∧ (i 0).val < a + n := by
  unfold band; rw [Finset.mem_filter]; exact ⟨fun h => h.2, fun h => ⟨Finset.mem_univ _, h⟩⟩

/-- A rectangle of `n` whole rows from row `a` covers exactly that band. -/
theorem band_rect {a n : ℕ} (inb : ∀ x, (![a, 0] : Fin 2 → ℕ) x + (![n, 512] : Fin 2 → ℕ) x ≤ S1024x512.size x) :
    (Rect.unit (s := S1024x512) ![a, 0] ![n, 512] inb).set = band a n := by
  ext i
  rw [Rect.mem_set_unit, mem_band]
  constructor
  · intro h; exact h 0
  · intro h x
    rcases x with ⟨_ | _ | k, hx⟩
    · exact h
    · exact ⟨Nat.zero_le _, by show (i 1).val < 0 + 512; have : (i 1).val < 512 := (i 1).isLt; omega⟩
    · exact absurd hx (by simp)

/-- A band of rows of `yv`, as a set of indices; -/
theorem set_y {a n : ℕ} (inb : ∀ x, (![a, 0] : Fin 2 → ℕ) x + (![n, 512] : Fin 2 → ℕ) x ≤ S1024x512.size x) :
    (yvM.access (Rect.unit (s := S1024x512) ![a, 0] ![n, 512] inb)).set = band a n := (View.set_slice_whole _ _).trans (band_rect inb)
/-- of the result; -/
theorem set_o {a n : ℕ} (inb : ∀ x, (![a, 0] : Fin 2 → ℕ) x + (![n, 512] : Fin 2 → ℕ) x ≤ S1024x512.size x) :
    (oM.access (Rect.unit (s := S1024x512) ![a, 0] ![n, 512] inb)).set = band a n := (View.set_slice_whole _ _).trans (band_rect inb)
/-- and of the input. -/
theorem set_x {a n : ℕ} (inb : ∀ x, (![a, 0] : Fin 2 → ℕ) x + (![n, 512] : Fin 2 → ℕ) x ≤ S1024x512.size x) :
    (xM.access (Rect.unit (s := S1024x512) ![a, 0] ![n, 512] inb)).set = band a n := (View.set_slice_whole _ _).trans (band_rect inb)

/-- Bands of rows that do not meet are disjoint. -/
theorem band_disjoint {a n b k : ℕ} (h : a + n ≤ b ∨ b + k ≤ a) : Disjoint (band a n) (band b k) := by
  rw [Finset.disjoint_left]; intro i hi hj
  rw [mem_band] at hi hj; omega

/-- The three bands copied out are the whole block. -/
theorem bands_all : band 8 1008 ∪ (band 0 8 ∪ band 1016 8) = (Finset.univ : Finset S1024x512.Idx) := by
  ext i
  simp only [Finset.mem_union, mem_band, Finset.mem_univ, iff_true]
  have : (i 0).val < 1024 := (i 0).isLt
  omega
/-- The large band does not meet the other two, -/
theorem bands_apart : Disjoint (band 8 1008) (band 0 8 ∪ band 1016 8) :=
  Finset.disjoint_union_right.mpr ⟨band_disjoint (by omega), band_disjoint (by omega)⟩
/-- and those do not meet. -/
theorem bands_apart' : Disjoint (band 0 8) (band 1016 8) := band_disjoint (by omega)

/-- The rows of a block between the first and the last. -/
theorem edges_all : band 0 1 ∪ (band 1023 1 ∪ band 1 1022) = (Finset.univ : Finset S1024x512.Idx) := by
  ext i
  simp only [Finset.mem_union, mem_band, Finset.mem_univ, iff_true]
  have : (i 0).val < 1024 := (i 0).isLt
  omega
/-- The first row does not meet the others, -/
theorem edges_apart : Disjoint (band 0 1) (band 1023 1 ∪ band 1 1022) :=
  Finset.disjoint_union_right.mpr ⟨band_disjoint (by omega), band_disjoint (by omega)⟩
/-- nor the last row those between. -/
theorem edges_apart' : Disjoint (band 1023 1) (band 1 1022) := band_disjoint (by omega)

/-- The two rows of the halo buffer do not meet. -/
theorem halo_apart : Disjoint (hrow false).view.set (hrow true).view.set := by
  rw [View.set_slice_whole, View.set_slice_whole]
  exact Rect.unit_disjoint 0 (.inl (by decide))
/-- The two rows of the halo buffer are all of it. -/
theorem halo_all : (hrow false).view.set ∪ (hrow true).view.set = (Finset.univ : Finset S2x512.Idx) := by
  rw [View.set_slice_whole, View.set_slice_whole]
  ext i
  simp only [Finset.mem_union, Finset.mem_univ, iff_true]
  rw [Rect.mem_set_unit, Rect.mem_set_unit]
  have h0 : (i 0).val < 2 := (i 0).isLt
  have h1 : (i 1).val < 512 := (i 1).isLt
  rcases Nat.lt_or_ge (i 0).val 1 with h | h
  · left; intro x
    rcases x with ⟨_ | _ | k, hx⟩
    · exact ⟨Nat.zero_le _, by show (i 0).val < 0 + 1; omega⟩
    · exact ⟨Nat.zero_le _, by show (i 1).val < 0 + 512; omega⟩
    · exact absurd hx (by show ¬ k + 1 + 1 < 2; omega)
  · right; intro x
    rcases x with ⟨_ | _ | k, hx⟩
    · exact ⟨h, by show (i 0).val < 1 + 1; omega⟩
    · exact ⟨Nat.zero_le _, by show (i 1).val < 0 + 512; omega⟩
    · exact absurd hx (by show ¬ k + 1 + 1 < 2; omega)

/-! ## Ownership cut and rejoined -/

omit [FloatOps F] in
/-- Three sets that are disjoint and cover a buffer cut its ownership in three. -/
theorem cut3 {ℓ : Loc nD τ sig} {A B C : Finset (Idx ℓ)} {q : PosShare TreeShare} {f : Buf (Elt F) ℓ}
    (hA : Disjoint A (B ∪ C)) (hB : Disjoint B C) (hU : A ∪ (B ∪ C) = Finset.univ) :
    (ℓ ↦[Finset.univ]{q} f : sProp 𝕄) ⊣⊢ iprop((ℓ ↦[A]{q} f) ∗ (ℓ ↦[B]{q} f) ∗ (ℓ ↦[C]{q} f)) := by
  constructor
  · rw [← hU]
    iintro H
    ihave H := (pointsTo_union hA).1 $$ H
    icases H with ⟨HA, H⟩
    ihave H := (pointsTo_union hB).1 $$ H
    icases H with ⟨HB, HC⟩
    isplitl [HA]; · iexact HA
    isplitl [HB] <;> iassumption
  · iintro ⟨HA, HB, HC⟩
    rw [← hU]
    iapply (pointsTo_union hA).2
    isplitl [HA]; · iexact HA
    iapply (pointsTo_union hB).2
    isplitl [HB] <;> iassumption

/-- The scratch block `yv` of device `c`. -/
abbrev yLoc (c : Dev nD) : Loc nD τ sig := (c : Thread nD τ).loc cc0_scratch1
/-- The result block of device `c`. -/
abbrev oLoc (c : Dev nD) : Loc nD τ sig := (c : Thread nD τ).loc main_v1
/-- The input block of device `c`. -/
abbrev xLoc (c : Dev nD) : Loc nD τ sig := (c : Thread nD τ).loc main_arg0
/-- The scratch copy of the input block. -/
abbrev xvLoc (c : Dev nD) : Loc nD τ sig := (c : Thread nD τ).loc cc0_scratch0
/-- The halo buffer of device `c`. -/
abbrev hLoc (c : Dev nD) : Loc nD τ sig := (c : Thread nD τ).loc cc0_scratch2

omit [FloatOps F] in
/-- `yv` is its three bands. -/
theorem cut_y (c : Dev nD) (f : Blk F) : (yLoc c ↦[Finset.univ]{fullShare} f : sProp 𝕄)
    ⊣⊢ iprop((yLoc c ↦[band 8 1008]{fullShare} f) ∗ (yLoc c ↦[band 0 8]{fullShare} f) ∗ (yLoc c ↦[band 1016 8]{fullShare} f)) :=
  cut3 bands_apart bands_apart' bands_all
omit [FloatOps F] in
/-- The result block is its three bands. -/
theorem cut_o (c : Dev nD) (f : Blk F) : (oLoc c ↦[Finset.univ]{fullShare} f : sProp 𝕄)
    ⊣⊢ iprop((oLoc c ↦[band 8 1008]{fullShare} f) ∗ (oLoc c ↦[band 0 8]{fullShare} f) ∗ (oLoc c ↦[band 1016 8]{fullShare} f)) :=
  cut3 bands_apart bands_apart' bands_all

variable (m : (ℓ : Loc nD τ sig) → Buf (Elt F) ℓ)

/-- What stays of the travelling half of `x`: all rows but the first and the last. -/
def xRest (c : Dev nD) : sProp 𝕄 := xLoc c ↦[band 1 1022]{fullShare.right} xAt m c
/-- The half of `x` the copy into `xv` reads. -/
def xHalf (c : Dev nD) : sProp 𝕄 := xLoc c ↦[Finset.univ]{fullShare.left} xAt m c

omit [FloatOps F] in
/-- The first row of `x` is the transfer to the left's. -/
theorem ePts_left (c : Dev nD) : ePts m false c = (xLoc c ↦[band 0 1]{fullShare.right} xAt m c : sProp 𝕄) := by
  unfold ePts; rw [show (edge false).view.set = band 0 1 from set_x inb_S1024x512_S1x512_0_0]
omit [FloatOps F] in
/-- The last row of `x` is the transfer to the right's. -/
theorem ePts_right (c : Dev nD) : ePts m true c = (xLoc c ↦[band 1023 1]{fullShare.right} xAt m c : sProp 𝕄) := by
  unfold ePts; rw [show (edge true).view.set = band 1023 1 from set_x inb_S1024x512_S1x512_1023_0]

omit [FloatOps F] in
/-- `x` is the half the copy reads, and of the other half its two edge rows and the rest. -/
theorem cut_x (c : Dev nD) : (xLoc c ↦[Finset.univ]{fullShare} xAt m c : sProp 𝕄)
    ⊣⊢ iprop(xHalf m c ∗ ePts m false c ∗ ePts m true c ∗ xRest m c) := by
  rw [ePts_left, ePts_right]
  unfold xHalf xRest
  have hs := pointsTo_share (nD := nD) (τ := τ) (sig := sig) (Ix := Unit) (Name := ℕ) (U := UU) (Lvl := ℕ) (ℓ := xLoc c) (I := Finset.univ) (f := xAt m c) (PosShare.mem_left_op_right fullShare)
  have hc := cut3 (F := F) (ℓ := xLoc c) (q := fullShare.right) (f := xAt m c) edges_apart edges_apart' edges_all
  constructor
  · iintro H
    ihave H := hs.1 $$ H
    icases H with ⟨Hl, Hr⟩
    isplitl [Hl]; · iexact Hl
    iapply hc.1 $$ Hr
  · iintro ⟨Hl, Hr⟩
    iapply hs.2
    isplitl [Hl]; · iexact Hl
    iapply hc.2 $$ Hr

omit [FloatOps F] in
/-- The halo buffer is its two rows. -/
theorem cut_h (c : Dev nD) (f : Hal F) : (hLoc c ↦[Finset.univ]{fullShare} f : sProp 𝕄) ⊢ iprop(hPts false c f ∗ hPts true c f) := by
  unfold hPts
  iintro H
  iapply (pointsTo_union halo_apart).1
  rw [halo_all]
  iexact H
omit [FloatOps F] in
/-- The two rows, whatever they hold, are the halo buffer. -/
theorem join_h (c : Dev nD) (f g : Hal F) : iprop(hPts false c f ∗ hPts true c g) ⊢ (iprop(∃ h : Hal F, hLoc c ↦[Finset.univ]{fullShare} h) : sProp 𝕄) := by
  unfold hPts
  iintro H
  ihave H := (pointsTo_join halo_apart) $$ H
  iexists _
  rw [← halo_all]
  iexact H

/-! ## Copying a band out -/

omit [FloatOps F] in
/-- A band copied from `yv` to the result holds there what it held. -/
theorem copied {r : Rect S1024x512} (f g : Blk F) :
    ∀ i ∈ (oM.access r).set, (oM.access r).write (Elt F) f ((yvM.access r).read (Elt F) g) Finset.univ i = g i := by
  intro i hi
  obtain ⟨j, -, rfl⟩ := Finset.mem_map.mp hi
  rw [View.write_emb_of_mem _ _ (Finset.mem_univ _)]
  rfl

end Cert.Stencil

end
-- ==== Proof.Head.lean ====
/-
  # The first part of the body

  Both neighbours are told that they may write this device's halo rows, the copy of `x` into `xv` starts, the barrier
  waits for both neighbours, the two edge rows leave, and `xv` is loaded.
-/
module

public import proofs.«01_k».proof.Proof.Steps
public import proofs.«01_k».proof.Proof.Bands

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 5 → ℕ) (c : Dev nD)

/-! ## What is held at the start and after each part -/

/-- The counter of a semaphore for a copy inside the device. -/
abbrev still (s : DmaSem sig) : sProp 𝕄 := semVal ((c : Thread nD τ), .dma s) 0

/-- The tokens device `c` pays with: at each neighbour's barrier and receive cell, and at its own two send cells. -/
def payTok (d : Bool) : sProp 𝕄 :=
  iprop(dutyTok ER (bar (nb d c)) 0 (!d) ∗ dutyTok ER (snd d c) 0 d ∗ dutyTok ER (rcv (!d) (nb d c)) 0 (!d))

/-- Its place at its own receive and send cells, and the right to wait for what arrives. -/
def await (d : Bool) : sProp 𝕄 :=
  iprop(atPos ER (snd d c) 0 ∅ 0 ∗ atPos ER (rcv d c) 0 ∅ 0 ∗ cred (tallyAt (rcv d c) () (if Side c d then rowN else 0)))

/-- Before the first part. -/
def headPre (W : Waits sig Unit) (f : Hal F) (xv : Blk F) : sProp 𝕄 :=
  iprop(records m K ∗ payTok c false ∗ payTok c true ∗ atPos ER (bar c) 0 ∅ 0 ∗ cred (tallyAt (bar c) () (degree c)) ∗ levAts L lv
    ∗ owes (c : Thread nD τ) (O₀ c) W ∗ hPts false c f ∗ hPts true c f
    ∗ xHalf m c ∗ ePts m false c ∗ ePts m true c ∗ (xvLoc c ↦[Finset.univ]{fullShare} xv) ∗ still c inS)
/-- After it. -/
def headPost (f : Hal F) : sProp 𝕄 :=
  iprop((∃ W, owes (c : Thread nD τ) 0 W) ∗ semVal (bar c) 0 ∗ kept false c f ∗ kept true c f
    ∗ xHalf m c ∗ lent m false c ∗ lent m true c ∗ (xvLoc c ↦[Finset.univ]{fullShare} xAt m c) ∗ still c inS)

omit [FloatOps F] in
/-- Loading all of `xv`. -/
theorem load_all (f : Blk F) : xvM.view.readAt (Elt F) rAll.toLoadRect f = f :=
  Memref.readAt_unit_zero (Elt F) cc0_scratch0 (funext fun a => by fin_cases a <;> rfl) _ f

set_option maxHeartbeats 800000 in
/-- The first part runs. -/
theorem run_head (W : Waits sig Unit) (f : Hal F) (xv : Blk F) (Q) :
    iprop(headPre m K c W f xv ∗ (headPost m c f -∗ Q ⟨Scalar.remsi (Scalar.divsi (Dev.word c) 1#32) 16#32, wL c, wR c, xAt m c, k0_pay1 (xAt m c), k0_pay2 (xAt m c), k0_pay3⟩))
      ⊢ runs c (k0_part1 (F := F) xM (Memref.isWhole_whole _) oM (Memref.isWhole_whole _) xvM (Memref.isWhole_whole _) yvM (Memref.isWhole_whole _)
          hM (Memref.isWhole_whole _) cc0_scratch3 cc0_scratch4 cc0_scratch5) Q := by
  unfold runs
  rw [k0_part1_eq_skeleton]; unfold k0_part1_skel
  simp only [semSignalWord, semWaitWord, Prog.lift, Prog.bind_op, Prog.bind_ret, Prog.pure_eq_ret, wp_deviceId]
  unfold headPre payTok O₀
  iintro ⟨⟨#HR, ⟨HtB0, HtS0, HtV0⟩, ⟨HtB1, HtS1, HtV1⟩, HatB, HcB, #Hlev, HO, Hh0, Hh1, Hx, He0, He1, Hxv, Hin⟩, Hk⟩
  -- the signal to the left
  iapply (wp_branch (c := c) (P := sigPre m K false c (O₁ c + oweBar true c) W f) (R := sigPost false c (O₁ c + oweBar true c) W f)
    (fun h => signal_some (k := fun _ => _) m K false c ((cond1_iff c).mp h) (dev1_nb c h) _ W f rfl)
    (fun h => signal_none m K false c (fun h' => h ((cond1_iff c).mpr h')) _ W f)) $$ [HO HtB0 Hh0]
  · unfold sigPre
    isplitr; · iexact HR
    isplitl [HO]; · iexact HO
    isplitl [HtB0] <;> iassumption
  unfold sigPost
  iintro ⟨HO, Hh0⟩
  -- the signal to the right
  iapply (wp_branch (c := c) (P := sigPre m K true c (O₁ c) W f) (R := sigPost true c (O₁ c) W f)
    (fun h => signal_some (k := fun _ => _) m K true c ((cond2_iff c).mp h) (dev2_nb c h) _ W f rfl)
    (fun h => signal_none m K true c (fun h' => h ((cond2_iff c).mpr h')) _ W f)) $$ [HO HtB1 Hh1]
  · unfold sigPre
    isplitr; · iexact HR
    isplitl [HO]; · iexact HO
    isplitl [HtB1] <;> iassumption
  unfold sigPost
  iintro ⟨HO, Hh1⟩
  -- the copy of `x` starts
  iapply (Transfers.wp_dmaLocal countersEmb 𝒱₀ (c : Thread nD τ) none (src := xM) (dst := xvM) (Sd := Finset.univ) (fs := xAt m c) (fd := xv) (q := fullShare.left)
    () _ rfl (View.dmaCredit_pos _ (by decide)) (Finset.subset_univ _)) $$ [Hx Hxv Hin]
  · isplitl [Hx]
    · unfold xHalf; rw [show xM.view.set = Finset.univ from View.set_whole _]; iexact Hx
    isplitl [Hxv] <;> iassumption
  iintro Hfl
  -- the barrier
  iapply (barrier_wait (k := fun _ => _) m K c W (amt1_degree c)) $$ [HatB HcB HO]
  · isplitr; · iexact HR
    isplitl [HatB]; · iexact HatB
    isplitl [HcB]; · iexact HcB
    isplitr; · iexact Hlev
    iexact HO
  iintro ⟨⟨%W', HO⟩, HzB, Hg0, Hg1⟩
  unfold O₁
  -- the first row leaves to the left
  iapply (wp_branch (c := c) (P := xferPre m K false c (0 + oweRow true c) W') (R := xferPost m false c (0 + oweRow true c) W')
    (fun h => xfer_some (k := fun _ => _) m K false c ((cond3_iff c).mp h) (dev3_nb c h) _ W')
    (fun h => xfer_none m K false c (fun h' => h ((cond3_iff c).mpr h')) _ W')) $$ [HO Hg0 He0 HtS0 HtV0]
  · unfold xferPre
    isplitr; · iexact HR
    isplitl [Hg0]; · iexact Hg0
    isplitl [He0]; · iexact He0
    isplitl [HO]; · iexact HO
    isplitl [HtS0] <;> iassumption
  unfold xferPost
  iintro ⟨HO, Hl0⟩
  -- the last row leaves to the right
  iapply (wp_branch (c := c) (P := xferPre m K true c 0 W') (R := xferPost m true c 0 W')
    (fun h => xfer_some (k := fun _ => _) m K true c ((cond4_iff c).mp h) (dev4_nb c h) _ W')
    (fun h => xfer_none m K true c (fun h' => h ((cond4_iff c).mpr h')) _ W')) $$ [HO Hg1 He1 HtS1 HtV1]
  · unfold xferPre
    isplitr; · iexact HR
    isplitl [Hg1]; · iexact Hg1
    isplitl [He1]; · iexact He1
    isplitl [HO]; · iexact HO
    isplitl [HtS1] <;> iassumption
  unfold xferPost
  iintro ⟨HO, Hl1⟩
  -- the copy of `x` is in
  iapply (Transfers.wp_waitLocal countersEmb 𝒱₀ (c : Thread nD τ) none () rfl) $$ [Hfl HO]
  · isplitl [Hfl] <;> iassumption
  iintro ⟨⟨Hxv, Hx⟩, Hin, HO⟩
  rw [View.write_whole_univ]
  ihave Hxv := (Entails.of_eq (show (xvM.view.loc (c : Thread nD τ) ↦{fullShare} ReadAs.same.apply (xM.view.read (Elt F) (xAt m c)) : sProp 𝕄)
    = (xvLoc c ↦[Finset.univ]{fullShare} xAt m c) from rfl)) $$ Hxv
  iapply (wp_load 𝒱₀ (c : Thread nD τ) none Set.univ (m := xvM) (q := fullShare) (f := xAt m c) (Finset.subset_univ _)) $$ Hxv; iintro Hxv
  rw [wp_ret, load_all]; imodintro
  iapply Hk
  unfold headPost
  isplitl [HO]; · iexists _; iexact HO
  isplitl [HzB]; · iexact HzB
  isplitl [Hh0]; · iexact Hh0
  isplitl [Hh1]; · iexact Hh1
  isplitl [Hx]; · unfold xHalf; rw [show xM.view.set = Finset.univ from View.set_whole _]; iexact Hx
  isplitl [Hl0]; · iexact Hl0
  isplitl [Hl1]; · iexact Hl1
  isplitl [Hxv] <;> iassumption

end Cert.Stencil

end
-- ==== Proof.Copies.lean ====
/-
  # The bands of `yv`, and their copies to the result

  What `yv` holds after each of its three stores, band by band, and the copy of one band of rows out to the result.
-/
module

public import proofs.«01_k».proof.Proof.Head

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What `yv` holds -/

/-- `yv` after the store of the interior rows. -/
abbrev yInner (f : Blk F) (x : Blk F) : Blk F := (yvM.access rInner).write (Elt F) f (innerOf x) Finset.univ
/-- `yv` after the store of the first row. -/
abbrev yFirst (f : Blk F) (x : Blk F) (t : S1x512.Idx → Elt F .f32) : Blk F := (yvM.access rFirst).write (Elt F) f (firstOf c x t) Finset.univ
/-- `yv` after the store of the last row. -/
abbrev yLast (f : Blk F) (x : Blk F) (b : S1x512.Idx → Elt F .f32) : Blk F := (yvM.access rLast).write (Elt F) f (lastOf c x b) Finset.univ

/-- A row between the first and the last is the interior's. -/
theorem inner_is (f : Blk F) (i : S1024x512.Idx) (h0 : 1 ≤ (i 0).val) (h1 : (i 0).val < 1023) : yInner f (xAt m c) i = yAt m c i := by
  unfold yAt
  rw [dif_neg (by omega), dif_neg (by omega)]
  exact stored_in _ f _ i h0 (by omega)

/-- Rows 8–1015 are the result's. -/
theorem body_is (f : Blk F) : ∀ i ∈ band 8 1008, yInner f (xAt m c) i = yAt m c i := fun i hi => by
  rw [mem_band] at hi; exact inner_is m c f i (by omega) (by omega)
/-- Rows 0–7 are the result's once the first row is in. -/
theorem head_is (f : Blk F) (t : S1x512.Idx → Elt F .f32) (ht : firstOf c (xAt m c) t = firstOf c (xAt m c) (haloRow false (haloAt m c))) :
    ∀ i ∈ band 0 8, yFirst c (yInner f (xAt m c)) (xAt m c) t i = yAt m c i := fun i hi => by
  rw [mem_band] at hi
  by_cases h : (i 0).val = 0
  · refine (stored_in inb_S1024x512_S1x512_0_0 _ _ i (Nat.zero_le _) (by omega)).trans ?_
    unfold yAt
    rw [dif_pos h, ht]
    congr 1
    exact idx_ext (by show (i 0).val - 0 = 0; omega) rfl
  · refine (stored_out inb_S1024x512_S1x512_0_0 _ _ i (.inr (by omega))).trans ?_
    exact inner_is m c f i (by omega) (by omega)
/-- Rows 1016–1023 are the result's once the last row is in. -/
theorem tail_is (f : Blk F) (b : S1x512.Idx → Elt F .f32) (hb : lastOf c (xAt m c) b = lastOf c (xAt m c) (haloRow true (haloAt m c))) :
    ∀ i ∈ band 1016 8, yLast c (yInner f (xAt m c)) (xAt m c) b i = yAt m c i := fun i hi => by
  rw [mem_band] at hi
  by_cases h : (i 0).val = 1023
  · refine (stored_in inb_S1024x512_S1x512_1023_0 _ _ i (by omega) (by omega)).trans ?_
    unfold yAt
    rw [dif_neg (by omega), dif_pos h, hb]
    congr 1
    exact idx_ext (by show (i 0).val - 1023 = 0; omega) rfl
  · refine (stored_out inb_S1024x512_S1x512_1023_0 _ _ i (.inl (by omega))).trans ?_
    exact inner_is m c f i (by omega) (by omega)

/-- The first row does not see what an absent neighbour's halo row holds. -/
theorem first_of_halo (g : Hal F) (h : Side c false → ∀ i ∈ (hrow false).view.set, g i = haloAt m c i) :
    firstOf c (xAt m c) (haloRow false g) = firstOf c (xAt m c) (haloRow false (haloAt m c)) := by
  by_cases hs : Side c false
  · rw [haloRow_congr false g (haloAt m c) (h hs)]
  · exact firstOf_edge c hs _ _ _
/-- Nor does the last row. -/
theorem last_of_halo (g : Hal F) (h : Side c true → ∀ i ∈ (hrow true).view.set, g i = haloAt m c i) :
    lastOf c (xAt m c) (haloRow true g) = lastOf c (xAt m c) (haloRow true (haloAt m c)) := by
  by_cases hs : Side c true
  · rw [haloRow_congr true g (haloAt m c) (h hs)]
  · exact lastOf_edge c hs _ _ _

/-! ## The copy of a band -/

/-- A copy of the rows `r` of `yv` to the result, in flight. -/
def fly (r : Rect S1024x512) (s : DmaSem sig) (fd g : Blk F) : sProp 𝕄 :=
  Transfers.Flight countersEmb (c : Thread nD τ) (.dma s) () (oM.access r).dmaCredit
    iprop((oLoc c ↦[(oM.access r).set]{fullShare} ((oM.access r).write (Elt F) fd ((yvM.access r).read (Elt F) g) Finset.univ))
      ∗ (yLoc c ↦[(yvM.access r).set]{fullShare} g))

/-- The copy of a band starts. -/
theorem copy_start {α : Type} {Q : α → sProp 𝕄} {k : PUnit → Prog (TpuEff nD τ sig (Elt F) Λ₀ .tc) α} {a n : ℕ}
    (inb : ∀ x, (![a, 0] : Fin 2 → ℕ) x + (![n, 512] : Fin 2 → ℕ) x ≤ S1024x512.size x) (hpos : 0 < (oM.access (Rect.unit (s := S1024x512) ![a, 0] ![n, 512] inb)).dmaCredit)
    (s : DmaSem sig) (fd g : Blk F)
    {h1 h2} {hsrc : (yvM.slice (Rect.unit (s := S1024x512) ![a, 0] ![n, 512] inb) h1).view.WordExact} {hdst : (oM.slice (Rect.unit (s := S1024x512) ![a, 0] ![n, 512] inb) h2).view.WordExact}
    {hsem : DmaTarget.Typed (nD := nD) (p := (.tc : Proc τ)) .vmem (.dma s) (.here (oM.slice (Rect.unit (s := S1024x512) ![a, 0] ![n, 512] inb) h2))} :
    iprop((yLoc c ↦[band a n]{fullShare} g) ∗ (oLoc c ↦[band a n]{fullShare} fd) ∗ still c s)
      ⊢ iprop((fly c (Rect.unit (s := S1024x512) ![a, 0] ![n, 512] inb) s fd g -∗ runs c (k ⟨⟩) Q)
        -∗ runs c (.op (.enqueueDma (yvM.slice (Rect.unit (s := S1024x512) ![a, 0] ![n, 512] inb) h1)
            (.here (oM.slice (Rect.unit (s := S1024x512) ![a, 0] ![n, 512] inb) h2)) (.dma s) hsrc hdst hsem) k) Q) := by
  unfold fly
  iintro ⟨Hy, Ho, Hs⟩ Hk
  iapply (Transfers.wp_dmaLocal countersEmb 𝒱₀ (c : Thread nD τ) none (Sd := (oM.access (Rect.unit (s := S1024x512) ![a, 0] ![n, 512] inb)).set) (fs := g) (fd := fd) (q := fullShare)
    () (oM.access (Rect.unit (s := S1024x512) ![a, 0] ![n, 512] inb)).dmaCredit rfl hpos (Finset.Subset.refl _)) $$ [Hy Ho Hs]
  · isplitl [Hy]; · rw [set_y inb]; iexact Hy
    isplitl [Ho]; · rw [set_o inb]; iexact Ho
    iexact Hs
  iexact Hk

/-- The copy of a band is done: the band of the result holds what the band of `yv` holds. -/
theorem copy_done {α : Type} {Q : α → sProp 𝕄} {k : PUnit → Prog (TpuEff nD τ sig (Elt F) Λ₀ .tc) α} {a n : ℕ}
    (inb : ∀ x, (![a, 0] : Fin 2 → ℕ) x + (![n, 512] : Fin 2 → ℕ) x ≤ S1024x512.size x)
    (s : DmaSem sig) (fd g y : Blk F) (hy : ∀ i ∈ band a n, g i = y i) {h1 h2 hsrc hdst} :
    iprop(fly c (Rect.unit (s := S1024x512) ![a, 0] ![n, 512] inb) s fd g ∗ (∃ W, owes (c : Thread nD τ) 0 W))
      ⊢ iprop((iprop((yLoc c ↦[band a n]{fullShare} y) ∗ (oLoc c ↦[band a n]{fullShare} y) ∗ still c s ∗ (∃ W, owes (c : Thread nD τ) 0 W)) -∗ runs c (k ⟨⟩) Q)
        -∗ runs c (.op (.waitDma2 s (yvM.slice (Rect.unit (s := S1024x512) ![a, 0] ![n, 512] inb) h1)
            (oM.slice (Rect.unit (s := S1024x512) ![a, 0] ![n, 512] inb) h2) hsrc hdst) k) Q) := by
  unfold fly
  iintro ⟨Hf, ⟨%W, HO⟩⟩ Hk
  iapply (Transfers.wp_waitLocal countersEmb 𝒱₀ (c : Thread nD τ) none () rfl) $$ [Hf HO]
  · isplitl [Hf] <;> iassumption
  rw [set_y inb, set_o inb]
  iintro ⟨⟨Ho, Hy⟩, Hs, HO⟩
  ihave Ho := (Entails.of_eq (pointsTo_congr (ℓ := oLoc c) (g := y)
    (fun i hi => (copied (r := (Rect.unit (s := S1024x512) ![a, 0] ![n, 512] inb)) fd g i (by rw [set_o inb]; exact hi)).trans (hy i hi)))) $$ Ho
  ihave Hy := (Entails.of_eq (pointsTo_congr (ℓ := yLoc c) (g := y) hy)) $$ Hy
  iapply Hk
  isplitl [Hy]; · iexact Hy
  isplitl [Ho]; · iexact Ho
  isplitl [Hs]; · iexact Hs
  iexists _; iexact HO

end Cert.Stencil

end
-- ==== Proof.Middle.lean ====
/-
  # The second part of the body

  The interior rows are computed, stored and copied out from row 8 to row 1015, the neighbours' rows arrive, and the
  first row is computed and stored.
-/
module

public import proofs.«01_k».proof.Proof.Copies

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 5 → ℕ) (c : Dev nD)

/-- The right to an arrival from side `d`, with this device's place at that cell. -/
def arriving (d : Bool) (f : Hal F) : sProp 𝕄 :=
  iprop(atPos ER (rcv d c) 0 ∅ 0 ∗ cred (tallyAt (rcv d c) () (if Side c d then rowN else 0)) ∗ kept d c f)
/-- A halo row after the arrival. -/
def arrived (d : Bool) (g : Hal F) : sProp 𝕄 := iprop(semVal (rcv d c) 0 ∗ hPts d c g)

/-- Before the second part. -/
def midPre (f : Hal F) (y o : Blk F) : sProp 𝕄 :=
  iprop(records m K ∗ arriving c false f ∗ arriving c true f ∗ (∃ W, owes (c : Thread nD τ) 0 W)
    ∗ (yLoc c ↦[Finset.univ]{fullShare} y) ∗ (oLoc c ↦[band 8 1008]{fullShare} o) ∗ still c bodyS)
/-- After it: rows 0–7 of `yv` are the result's, the body of it is being copied out, and only the last row is to come. -/
def midPost (y o : Blk F) : sProp 𝕄 :=
  iprop((∃ W, owes (c : Thread nD τ) 0 W) ∗ (∃ g, arrived c false g) ∗ (∃ g, arrived c true g)
    ∗ (yLoc c ↦[band 0 8]{fullShare} yAt m c) ∗ (yLoc c ↦[band 1016 8]{fullShare} yInner y (xAt m c)) ∗ fly c rBody bodyS o (yInner y (xAt m c)))

set_option maxHeartbeats 800000 in
/-- The second part runs. -/
theorem run_mid (f : Hal F) (y o : Blk F) (v2 : BitVec 32) (Q) :
    iprop(midPre m K c f y o
        ∗ (∀ b, ⌜lastOf c (xAt m c) b = lastOf c (xAt m c) (haloRow true (haloAt m c))⌝ -∗ midPost m c y o
            -∗ Q ⟨b, k0_pay6 (xAt m c), k0_pay7 (xAt m c), k0_pay8⟩))
      ⊢ runs c (k0_part2 (F := F) xM (Memref.isWhole_whole _) oM (Memref.isWhole_whole _) xvM (Memref.isWhole_whole _) yvM (Memref.isWhole_whole _)
          hM (Memref.isWhole_whole _) cc0_scratch3 cc0_scratch4 cc0_scratch5 v2 (wL c) (wR c) (xAt m c) (k0_pay1 (xAt m c)) (k0_pay2 (xAt m c)) k0_pay3) Q := by
  unfold runs
  rw [k0_part2_eq_skeleton]; unfold k0_part2_skel
  simp only [semSignalWord, semWaitWord, Prog.lift, Prog.bind_op, Prog.bind_ret, Prog.pure_eq_ret]
  unfold midPre arriving
  iintro ⟨⟨#HR, ⟨Hat0, Hc0, Hh0⟩, ⟨Hat1, Hc1, Hh1⟩, HO, Hy, Ho, Hs⟩, Hk⟩
  -- the interior rows
  iapply (wp_load 𝒱₀ (c : Thread nD τ) none Set.univ (m := yvM) (Finset.subset_univ _)) $$ Hy; iintro Hy
  iapply (wp_store 𝒱₀ (c : Thread nD τ) none Set.univ (m := yvM) (r := rInner) (Mk := Finset.univ) (Finset.subset_univ _)) $$ Hy; iintro Hy
  ihave Hy := (cut_y c (yInner y (xAt m c))).1 $$ Hy
  icases Hy with ⟨Hyb, Hyh, Hyt⟩
  -- the body of them is copied out
  iapply (copy_start c inb_S1024x512_S1008x512_8_0 (View.dmaCredit_pos _ (by decide)) bodyS o (yInner y (xAt m c)) (k := fun _ => _)) $$ [Hyb Ho Hs]
  · isplitl [Hyb]; · iexact Hyb
    isplitl [Ho] <;> iassumption
  iintro Hfl
  -- the left neighbour's row arrives
  iapply (wp_branch (c := c) (P := arrPre m K false c f) (R := arrPost m false c)
    (fun h => arrive_some (k := fun _ => _) m K false c ((branchL_iff c).mp h) f)
    (fun h => arrive_none m K false c (fun h' => h ((branchL_iff c).mpr h')) f)) $$ [HO Hat0 Hc0 Hh0]
  · unfold arrPre
    isplitr; · iexact HR
    isplitl [Hat0]; · iexact Hat0
    isplitl [Hc0]; · iexact Hc0
    isplitl [HO] <;> iassumption
  unfold arrPost
  iintro ⟨HO, Hz0, ⟨%g0, %hg0, Hh0⟩⟩
  -- the right neighbour's
  iapply (wp_branch (c := c) (P := arrPre m K true c f) (R := arrPost m true c)
    (fun h => arrive_some (k := fun _ => _) m K true c ((branchR_iff c).mp h) f)
    (fun h => arrive_none m K true c (fun h' => h ((branchR_iff c).mpr h')) f)) $$ [HO Hat1 Hc1 Hh1]
  · unfold arrPre
    isplitr; · iexact HR
    isplitl [Hat1]; · iexact Hat1
    isplitl [Hc1]; · iexact Hc1
    isplitl [HO] <;> iassumption
  unfold arrPost
  iintro ⟨HO, Hz1, ⟨%g1, %hg1, Hh1⟩⟩
  -- both halo rows are loaded
  ihave Hh0 := (Entails.of_eq (show (hPts false c g0 : sProp 𝕄) = ((hM.access hRow0).loc (c : Thread nD τ) ↦[(hM.access hRow0).set]{fullShare} g0) from rfl)) $$ Hh0
  ihave Hh1 := (Entails.of_eq (show (hPts true c g1 : sProp 𝕄) = ((hM.access hRow1).loc (c : Thread nD τ) ↦[(hM.access hRow1).set]{fullShare} g1) from rfl)) $$ Hh1
  unfold runs
  iapply (wp_load_rect 𝒱₀ (c : Thread nD τ) none Set.univ (m := hM) (r := hRow0) (Finset.Subset.refl _)) $$ Hh0; iintro Hh0
  iapply (wp_load_rect 𝒱₀ (c : Thread nD τ) none Set.univ (m := hM) (r := hRow1) (Finset.Subset.refl _)) $$ Hh1; iintro Hh1
  -- the first row
  iapply (wp_load_rect 𝒱₀ (c : Thread nD τ) none Set.univ (m := yvM) (r := rFirst) (S := band 0 8)
    (by rw [set_y inb_S1024x512_S1x512_0_0]; intro i hi; rw [mem_band] at hi ⊢; omega)) $$ Hyh; iintro Hyh
  iapply (wp_store 𝒱₀ (c : Thread nD τ) none Set.univ (m := yvM) (r := rFirst) (Mk := Finset.univ) (S := band 0 8)
    (by show (yvM.access rFirst).set ⊆ _; rw [set_y inb_S1024x512_S1x512_0_0]; intro i hi; rw [mem_band] at hi ⊢; omega)) $$ Hyh; iintro Hyh
  ihave Hyh := (Entails.of_eq (show ((yvM.access rFirst).loc (c : Thread nD τ) ↦[band 0 8]{fullShare}
      ((yvM.access rFirst).write (Elt F) (yInner y (xAt m c)) (k0_pay5 (wL c) (xAt m c) ((hM.access hRow0).read (Elt F) g0)) Finset.univ) : sProp 𝕄)
    = (yLoc c ↦[band 0 8]{fullShare} yAt m c)
    from pointsTo_congr (ℓ := yLoc c) (g := yAt m c) (head_is m c y (haloRow false g0) (first_of_halo m c g0 hg0)))) $$ Hyh
  rw [wp_ret]; imodintro
  iapply Hk $$ %((hM.access hRow1).read (Elt F) g1) %(last_of_halo m c g1 hg1)
  unfold midPost arrived
  isplitl [HO]; · iexact HO
  isplitl [Hz0 Hh0]
  · iexists g0; isplitl [Hz0]
    · iexact Hz0
    · iapply (Entails.of_eq (show ((hM.access hRow0).loc (c : Thread nD τ) ↦[(hM.access hRow0).set]{fullShare} g0 : sProp 𝕄) = hPts false c g0 from rfl)); iexact Hh0
  isplitl [Hz1 Hh1]
  · iexists g1; isplitl [Hz1]
    · iexact Hz1
    · iapply (Entails.of_eq (show ((hM.access hRow1).loc (c : Thread nD τ) ↦[(hM.access hRow1).set]{fullShare} g1 : sProp 𝕄) = hPts true c g1 from rfl)); iexact Hh1
  isplitl [Hyh]; · iexact Hyh
  isplitl [Hyt] <;> iassumption

end Cert.Stencil

end
-- ==== Proof.Tail.lean ====
/-
  # The last part of the body

  The last row is computed and stored, the two outer bands are copied out, and two of the three copies out are waited
  for.
-/
module

public import proofs.«01_k».proof.Proof.Middle

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 5 → ℕ) (c : Dev nD)

/-- Before the third part. -/
def tailPre (y o : Blk F) : sProp 𝕄 :=
  iprop((∃ W, owes (c : Thread nD τ) 0 W) ∗ (yLoc c ↦[band 0 8]{fullShare} yAt m c) ∗ (yLoc c ↦[band 1016 8]{fullShare} yInner y (xAt m c))
    ∗ fly c rBody bodyS o (yInner y (xAt m c)) ∗ (oLoc c ↦[band 0 8]{fullShare} o) ∗ (oLoc c ↦[band 1016 8]{fullShare} o)
    ∗ still c headS ∗ still c tailS)
/-- After it: two bands are out, the third is on its way. -/
def tailPost (o : Blk F) : sProp 𝕄 :=
  iprop((∃ W, owes (c : Thread nD τ) 0 W) ∗ (yLoc c ↦[band 8 1008]{fullShare} yAt m c) ∗ (yLoc c ↦[band 0 8]{fullShare} yAt m c)
    ∗ (oLoc c ↦[band 8 1008]{fullShare} yAt m c) ∗ (oLoc c ↦[band 0 8]{fullShare} yAt m c)
    ∗ fly c rTail tailS o (yAt m c) ∗ still c bodyS ∗ still c headS)

set_option maxHeartbeats 800000 in
/-- The third part runs. -/
theorem run_tail (y o : Blk F) (b : S1x512.Idx → Elt F .f32) (hb : lastOf c (xAt m c) b = lastOf c (xAt m c) (haloRow true (haloAt m c))) (Q) :
    iprop(tailPre m c y o ∗ (tailPost m c o -∗ Q ⟨⟩))
      ⊢ runs c (k0_part3 (F := F) xM (Memref.isWhole_whole _) oM (Memref.isWhole_whole _) xvM (Memref.isWhole_whole _) yvM (Memref.isWhole_whole _)
          hM (Memref.isWhole_whole _) cc0_scratch3 cc0_scratch4 cc0_scratch5 (wR c) (xAt m c) b (k0_pay6 (xAt m c)) (k0_pay7 (xAt m c)) k0_pay8) Q := by
  unfold runs
  rw [k0_part3_eq_skeleton]; unfold k0_part3_skel
  simp only [semSignalWord, semWaitWord, Prog.lift, Prog.bind_op, Prog.bind_ret, Prog.pure_eq_ret]
  unfold tailPre
  iintro ⟨⟨HO, Hyh, Hyt, Hfb, Hoh, Hot, Hsh, Hst⟩, Hk⟩
  -- the last row
  iapply (wp_load_rect 𝒱₀ (c : Thread nD τ) none Set.univ (m := yvM) (r := rLast) (S := band 1016 8)
    (by rw [set_y inb_S1024x512_S1x512_1023_0]; intro i hi; rw [mem_band] at hi ⊢; omega)) $$ Hyt; iintro Hyt
  iapply (wp_store 𝒱₀ (c : Thread nD τ) none Set.univ (m := yvM) (r := rLast) (Mk := Finset.univ) (S := band 1016 8)
    (by show (yvM.access rLast).set ⊆ _; rw [set_y inb_S1024x512_S1x512_1023_0]; intro i hi; rw [mem_band] at hi ⊢; omega)) $$ Hyt; iintro Hyt
  ihave Hyt := (Entails.of_eq (show ((yvM.access rLast).loc (c : Thread nD τ) ↦[band 1016 8]{fullShare}
      ((yvM.access rLast).write (Elt F) (yInner y (xAt m c)) (k0_pay9 (wR c) (xAt m c) b (k0_pay6 (xAt m c)) (k0_pay7 (xAt m c)) k0_pay8) Finset.univ) : sProp 𝕄)
    = (yLoc c ↦[band 1016 8]{fullShare} yAt m c)
    from pointsTo_congr (ℓ := yLoc c) (g := yAt m c) (tail_is m c y b hb))) $$ Hyt
  -- the outer bands are copied out
  iapply (copy_start c inb_S1024x512_S8x512_0_0 (View.dmaCredit_pos _ (by decide)) headS o (yAt m c) (k := fun _ => _)) $$ [Hyh Hoh Hsh]
  · isplitl [Hyh]; · iexact Hyh
    isplitl [Hoh] <;> iassumption
  iintro Hfh
  iapply (copy_start c inb_S1024x512_S8x512_1016_0 (View.dmaCredit_pos _ (by decide)) tailS o (yAt m c) (k := fun _ => _)) $$ [Hyt Hot Hst]
  · isplitl [Hyt]; · iexact Hyt
    isplitl [Hot] <;> iassumption
  iintro Hft
  -- two of the three copies are done
  iapply (copy_done c inb_S1024x512_S1008x512_8_0 bodyS o (yInner y (xAt m c)) (yAt m c) (body_is m c y) (k := fun _ => _)) $$ [Hfb HO]
  · isplitl [Hfb] <;> iassumption
  iintro ⟨Hyb, Hob, Hsb, HO⟩
  iapply (copy_done c inb_S1024x512_S8x512_0_0 headS o (yAt m c) (yAt m c) (fun _ _ => rfl) (k := fun _ => _)) $$ [Hfh HO]
  · isplitl [Hfh] <;> iassumption
  iintro ⟨Hyh, Hoh, Hsh, HO⟩
  unfold runs
  rw [wp_ret]; imodintro
  iapply Hk
  unfold tailPost
  isplitl [HO]; · iexact HO
  isplitl [Hyb]; · iexact Hyb
  isplitl [Hyh]; · iexact Hyh
  isplitl [Hob]; · iexact Hob
  isplitl [Hoh]; · iexact Hoh
  isplitl [Hft]; · iexact Hft
  isplitl [Hsb] <;> iassumption

end Cert.Stencil

end
-- ==== Proof.Body.lean ====
/-
  # The body whole

  The three parts of the body, one after another, then the waits for the last copy out and for the two edge rows that
  left.
-/
module

public import proofs.«01_k».proof.Proof.Tail

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 5 → ℕ) (c : Dev nD)

/-- Before the body: device `c`'s share of what the devices share, its block, and its buffers with anything in them. -/
def bodyPre (W : Waits sig Unit) (f : Hal F) (xv y o : Blk F) : sProp 𝕄 :=
  iprop(records m K ∗ payTok c false ∗ payTok c true ∗ await c false ∗ await c true
    ∗ atPos ER (bar c) 0 ∅ 0 ∗ cred (tallyAt (bar c) () (degree c)) ∗ levAts L lv ∗ owes (c : Thread nD τ) (O₀ c) W
    ∗ (xLoc c ↦[Finset.univ]{fullShare} xAt m c) ∗ (oLoc c ↦[Finset.univ]{fullShare} o) ∗ (xvLoc c ↦[Finset.univ]{fullShare} xv)
    ∗ (yLoc c ↦[Finset.univ]{fullShare} y) ∗ (hLoc c ↦[Finset.univ]{fullShare} f)
    ∗ still c inS ∗ still c bodyS ∗ still c headS ∗ still c tailS)
/-- After it: the result holds `yAt`, the input what it held, and every semaphore is at zero. -/
def bodyPost : sProp 𝕄 :=
  iprop((∃ W, owes (c : Thread nD τ) 0 W)
    ∗ (xLoc c ↦[Finset.univ]{fullShare} xAt m c) ∗ (oLoc c ↦[Finset.univ]{fullShare} yAt m c)
    ∗ (∃ f : Blk F, xvLoc c ↦[Finset.univ]{fullShare} f) ∗ (∃ f : Blk F, yLoc c ↦[Finset.univ]{fullShare} f) ∗ (∃ f : Hal F, hLoc c ↦[Finset.univ]{fullShare} f)
    ∗ semVal (bar c) 0 ∗ semVal (snd false c) 0 ∗ semVal (snd true c) 0 ∗ semVal (rcv false c) 0 ∗ semVal (rcv true c) 0
    ∗ still c inS ∗ still c bodyS ∗ still c headS ∗ still c tailS)

set_option maxHeartbeats 800000 in
/-- The body runs from the one to the other. -/
theorem run_body (W : Waits sig Unit) (f : Hal F) (xv y o : Blk F) (Q : PUnit → sProp 𝕄) :
    iprop(bodyPre m K c W f xv y o ∗ (bodyPost m c -∗ Q ⟨⟩))
      ⊢ runs c (cc0_body (F := F) xM (Memref.isWhole_whole _) oM (Memref.isWhole_whole _) xvM (Memref.isWhole_whole _) yvM (Memref.isWhole_whole _)
          hM (Memref.isWhole_whole _) cc0_scratch3 cc0_scratch4 cc0_scratch5) Q := by
  unfold runs
  rw [cc0_body_eq_skeleton]; unfold cc0_body_skel
  rw [wp_bind]
  unfold bodyPre await
  iintro ⟨⟨#HR, Ht0, Ht1, ⟨HatS0, HatV0, HcV0⟩, ⟨HatS1, HatV1, HcV1⟩, HatB, HcB, #Hlev, HO, Hx, Ho, Hxv, Hy, Hh, Hin, Hsb, Hsh, Hst⟩, Hk⟩
  ihave Hx := (cut_x m c).1 $$ Hx
  icases Hx with ⟨Hx, He0, He1, Hxr⟩
  ihave Hh := (cut_h c f) $$ Hh
  icases Hh with ⟨Hh0, Hh1⟩
  ihave Ho := (cut_o c o).1 $$ Ho
  icases Ho with ⟨Hob, Hoh, Hot⟩
  iapply (run_head m K c W f xv)
  unfold headPre
  isplitl [Ht0 Ht1 HatB HcB HO Hh0 Hh1 Hx He0 He1 Hxv Hin]
  · isplitr; · iexact HR
    isplitl [Ht0]; · iexact Ht0
    isplitl [Ht1]; · iexact Ht1
    isplitl [HatB]; · iexact HatB
    isplitl [HcB]; · iexact HcB
    isplitr; · iexact Hlev
    isplitl [HO]; · iexact HO
    isplitl [Hh0]; · iexact Hh0
    isplitl [Hh1]; · iexact Hh1
    isplitl [Hx]; · iexact Hx
    isplitl [He0]; · iexact He0
    isplitl [He1]; · iexact He1
    isplitl [Hxv] <;> iassumption
  unfold headPost
  iintro ⟨HO, HzB, Hh0, Hh1, Hx, Hl0, Hl1, Hxv, Hin⟩
  rw [wp_bind]
  iapply (run_mid m K c f y o _)
  unfold midPre arriving
  isplitl [HatV0 HatV1 HcV0 HcV1 Hh0 Hh1 HO Hy Hob Hsb]
  · isplitr; · iexact HR
    isplitl [HatV0 HcV0 Hh0]
    · isplitl [HatV0]; · iexact HatV0
      isplitl [HcV0] <;> iassumption
    isplitl [HatV1 HcV1 Hh1]
    · isplitl [HatV1]; · iexact HatV1
      isplitl [HcV1] <;> iassumption
    isplitl [HO]; · iexact HO
    isplitl [Hy]; · iexact Hy
    isplitl [Hob] <;> iassumption
  iintro %b %hb
  unfold midPost arrived
  iintro ⟨HO, ⟨%g0, HzV0, Hh0⟩, ⟨%g1, HzV1, Hh1⟩, Hyh, Hyt, Hfb⟩
  rw [wp_bind]
  iapply (run_tail m c y o b hb)
  unfold tailPre
  isplitl [HO Hyh Hyt Hfb Hoh Hot Hsh Hst]
  · isplitl [HO]; · iexact HO
    isplitl [Hyh]; · iexact Hyh
    isplitl [Hyt]; · iexact Hyt
    isplitl [Hfb]; · iexact Hfb
    isplitl [Hoh]; · iexact Hoh
    isplitl [Hot]; · iexact Hot
    isplitl [Hsh] <;> iassumption
  unfold tailPost
  iintro ⟨HO, Hyb, Hyh, Hob, Hoh, Hft, Hsb, Hsh⟩
  simp only [Prog.lift, Prog.bind_op, Prog.bind_ret, Prog.pure_eq_ret]
  -- the last copy is done
  iapply (copy_done c inb_S1024x512_S8x512_1016_0 tailS o (yAt m c) (yAt m c) (fun _ _ => rfl) (k := fun _ => _)) $$ [Hft HO]
  · isplitl [Hft] <;> iassumption
  iintro ⟨Hyt, Hot, Hst, HO⟩
  -- both rows have left
  iapply (wp_branch (c := c) (P := retPre m K false c) (R := retPost m false c)
    (fun h => return_some (k := fun _ => _) m K false c ((branchL_iff c).mp h))
    (fun h => return_none m K false c (fun h' => h ((branchL_iff c).mpr h')))) $$ [HatS0 Hl0 HO]
  · unfold retPre
    isplitr; · iexact HR
    isplitl [HatS0]; · iexact HatS0
    isplitl [Hl0] <;> iassumption
  unfold retPost
  iintro ⟨HO, HzS0, He0⟩
  iapply (wp_branch (c := c) (P := retPre m K true c) (R := retPost m true c)
    (fun h => return_some (k := fun _ => _) m K true c ((branchR_iff c).mp h))
    (fun h => return_none m K true c (fun h' => h ((branchR_iff c).mpr h')))) $$ [HatS1 Hl1 HO]
  · unfold retPre
    isplitr; · iexact HR
    isplitl [HatS1]; · iexact HatS1
    isplitl [Hl1] <;> iassumption
  unfold retPost
  iintro ⟨HO, HzS1, He1⟩
  unfold runs
  rw [wp_ret]; imodintro
  iapply Hk
  unfold bodyPost
  ihave Hx := (cut_x m c).2 $$ [Hx He0 He1 Hxr]
  · isplitl [Hx]; · iexact Hx
    isplitl [He0]; · iexact He0
    isplitl [He1] <;> iassumption
  ihave Ho := (cut_o c (yAt m c)).2 $$ [Hob Hoh Hot]
  · isplitl [Hob]; · iexact Hob
    isplitl [Hoh] <;> iassumption
  ihave Hy := (cut_y c (yAt m c)).2 $$ [Hyb Hyh Hyt]
  · isplitl [Hyb]; · iexact Hyb
    isplitl [Hyh] <;> iassumption
  ihave Hh := (join_h c g0 g1) $$ [Hh0 Hh1]
  · isplitl [Hh0] <;> iassumption
  isplitl [HO]; · iexact HO
  isplitl [Hx]; · iexact Hx
  isplitl [Ho]; · iexact Ho
  isplitl [Hxv]; · iexists _; iexact Hxv
  isplitl [Hy]; · iexists _; iexact Hy
  isplitl [Hh]; · iexact Hh
  isplitl [HzB]; · iexact HzB
  isplitl [HzS0]; · iexact HzS0
  isplitl [HzS1]; · iexact HzS1
  isplitl [HzV0]; · iexact HzV0
  isplitl [HzV1]; · iexact HzV1
  isplitl [Hin]; · iexact Hin
  isplitl [Hsb]; · iexact Hsb
  isplitl [Hsh] <;> iassumption

end Cert.Stencil

end
-- ==== Proof.Fund.lean ====
/-
  # The rounds at the start

  Every device's five cells start at their first round.  The tokens of a cell's raises are minted with the cell and
  dealt to the devices that raise it.
-/
module

public import proofs.«01_k».proof.Proof.Head

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The five cells of the devices are pairwise distinct. -/
theorem kcell_injective : Function.Injective (kcell : Dev nD × Fin 5 → GSem nD τ sig) := by
  rintro ⟨a, i⟩ ⟨b, j⟩ h
  obtain rfl : a = b := congrArg (fun g : GSem nD τ sig => g.1.1) h
  have hij : ∀ i j : Fin 5, csem i = csem j → i = j := by decide
  rw [hij i j (congrArg Prod.snd h)]
/-- All cells. -/
def allCells : Finset (GSem nD τ sig) := Finset.univ.map ⟨kcell, kcell_injective⟩

/-- The token of a raise: on which of the device's cells, and which duty. -/
abbrev raise (j : Fin 6) : SemLoc sig × Bool := match j with
  | 0 => (.reg barS, false) | 1 => (.reg barS, true) | 2 => (.dma (sndS false), false) | 3 => (.dma (sndS true), true)
  | 4 => (.dma (rcvS false), false) | 5 => (.dma (rcvS true), true)
/-- The token of raise `j` on device `c`. -/
abbrev tok (cj : Dev nD × Fin 6) : GSem nD τ sig × ℕ × Bool := (((cj.1 : Thread nD τ), (raise cj.2).1), 0, (raise cj.2).2)
/-- The tokens are pairwise distinct. -/
theorem tok_injective : Function.Injective (tok : Dev nD × Fin 6 → GSem nD τ sig × ℕ × Bool) := by
  rintro ⟨a, i⟩ ⟨b, j⟩ h
  obtain rfl : a = b := congrArg (fun x : GSem nD τ sig × ℕ × Bool => x.1.1.1) h
  have hij : ∀ i j : Fin 6, raise i = raise j → i = j := by decide
  rw [hij i j (congrArg (fun x : GSem nD τ sig × ℕ × Bool => (x.1.2, x.2.2)) h)]
/-- All tokens. -/
def allToks : Finset (GSem nD τ sig × ℕ × Bool) := Finset.univ.map ⟨tok, tok_injective⟩

/-- The tokens of device `c`'s own cells that concern side `d`. -/
def ownTok (d : Bool) (c : Dev nD) : sProp 𝕄 :=
  iprop(dutyTok ER (bar c) 0 d ∗ dutyTok ER (snd d c) 0 d ∗ dutyTok ER (rcv d c) 0 d)

omit [FloatOps F] in
/-- Six things in a row, gathered by side. -/
theorem bigSep_six (Φ : Fin 6 → sProp 𝕄) :
    bigSep Finset.univ Φ ⊢ iprop((Φ 0 ∗ Φ 2 ∗ Φ 4) ∗ (Φ 1 ∗ Φ 3 ∗ Φ 5)) := by
  rw [bigSep_univ_eq_bigSepL [0, 1, 2, 3, 4, 5] (by decide) (by decide)]
  show iprop(Φ 0 ∗ Φ 1 ∗ Φ 2 ∗ Φ 3 ∗ Φ 4 ∗ Φ 5) ⊢ _
  iintro ⟨H0, H1, H2, H3, H4, H5⟩
  isplitl [H0 H2 H4]
  · isplitl [H0]; · iexact H0
    isplitl [H2] <;> iassumption
  · isplitl [H1]; · iexact H1
    isplitl [H3] <;> iassumption
omit [FloatOps F] in
/-- Five things in a row. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## What is minted for a device -/

/-- Each cell's state, position and record, and its own cells' tokens. -/
def minted (c : Dev nD) : sProp 𝕄 :=
  iprop((bigSep Finset.univ fun k : Fin 5 => roundState ER (sched m) (kcell (c, k)) 0)
    ∗ (bigSep Finset.univ fun k : Fin 5 => atPos ER (kcell (c, k)) 0 ∅ 0) ∗ (bigSep Finset.univ fun k : Fin 5 => reached ER (kcell (c, k)) 0)
    ∗ ownTok false c ∗ ownTok true c)

omit [FloatOps F] in
/-- All tokens, device by device. -/
theorem toks_by_device : bigSep allToks (fun x => (dutyTok ER x.1 x.2.1 x.2.2 : sProp 𝕄))
    ⊢ bigSep Finset.univ fun c : Dev nD => iprop(ownTok false c ∗ ownTok true c) := by
  unfold allToks
  rw [bigSep_map, bigSep_univ_prod]
  exact bigSep_mono fun c _ => bigSep_six fun j => dutyTok ER (tok (c, j)).1 (tok (c, j)).2.1 (tok (c, j)).2.2

omit [FloatOps F] in
/-- Something of every cell, device by device. -/
theorem cells_by_device (Φ : GSem nD τ sig → sProp 𝕄) :
    bigSep allCells Φ = bigSep Finset.univ fun c : Dev nD => bigSep Finset.univ fun k : Fin 5 => Φ (kcell (c, k)) := by
  unfold allCells; rw [bigSep_map, bigSep_univ_prod]; rfl

omit [FloatOps F] in
/-- The launch's element of the rounds is what is minted for every device. -/
theorem mint : BI.own (ER (initOf allCells allToks)) ⊢ (|==> bigSep Finset.univ (minted m) : sProp 𝕄) := by
  iintro H
  imod (Rounds.fund ER (sched m) allCells allToks) $$ H with ⟨Hs, Hr, Ha, Ht⟩
  imodintro
  unfold minted
  simp only [bigSep_sep']
  isplitl [Hs]; · iapply (Entails.of_eq (cells_by_device fun g => roundState ER (sched m) g 0)); iexact Hs
  isplitl [Ha]; · iapply (Entails.of_eq (cells_by_device fun g => atPos ER g 0 ∅ 0)); iexact Ha
  isplitl [Hr]; · iapply (Entails.of_eq (cells_by_device fun g => reached ER g 0)); iexact Hr
  simp only [← bigSep_sep']
  iapply (toks_by_device (F := F)); iexact Ht

/-! ## The semaphores of a device -/

/-- The kernel's own semaphores. -/
abbrev osem : Fin 8 → SemLoc sig := fun i => .dma i
/-- They are the launch's. -/
theorem ownSemFacts : Pipeline.OwnSemFacts cfg0.spec osem := by decide

/-- The counters of the four semaphores for copies inside the device. -/
def quiet (c : Dev nD) : sProp 𝕄 := iprop(still c inS ∗ still c bodyS ∗ still c headS ∗ still c tailS)

omit [FloatOps F] in
/-- The kernel's own counters, by name. -/
theorem own_sems (c : Dev nD) : (Pipeline.ownSems0 (Ix := Unit) (Name := ℕ) (U := UU) (Lvl := ℕ) (Val := Elt F) (τ := τ) osem c : sProp 𝕄)
    = iprop(semVal (snd false c) 0 ∗ semVal (snd true c) 0 ∗ semVal (rcv false c) 0 ∗ semVal (rcv true c) 0 ∗ quiet c) := by
  rw [Pipeline.ownSems0_eq_of_list c osem [0, 1, 2, 3, 4, 5, 6, 7] (by decide) (by decide)]; rfl
omit [FloatOps F] in
/-- The barrier's counter is the one that outlives the kernel. -/
theorem bar_sem (c : Dev nD) : (unscopedSems0 c : sProp 𝕄) = semVal (bar c) 0 := by
  unfold unscopedSems0; rw [bigSep_eq_bigSepL_of_eq [SemLoc.reg barS] (by decide) (by decide)]; rfl

/-! ## The invariants -/

/-- What a device has before the tokens are dealt. -/
def opened (c : Dev nD) : sProp 𝕄 :=
  iprop((bigSep Finset.univ fun k : Fin 5 => iprop(∃ κ : ℕ, cellInv ER (sched m) κ (kcell (c, k))))
    ∗ (bigSep Finset.univ fun k : Fin 5 => atPos ER (kcell (c, k)) 0 ∅ 0) ∗ (bigSep Finset.univ fun k : Fin 5 => reached ER (kcell (c, k)) 0)
    ∗ (ownTok false c ∗ ownTok true c) ∗ quiet c)

omit [FloatOps F] in
/-- Each counter goes, with its cell's state, into the cell's invariant. -/
theorem opening (c : Dev nD) :
    iprop(Pipeline.ownSems0 (Ix := Unit) (Name := ℕ) (U := UU) (Lvl := ℕ) (Val := Elt F) (τ := τ) osem c ∗ unscopedSems0 c ∗ minted m c)
      ⊢ |={Set.univ}=> opened m c := by
  rw [own_sems, bar_sem]
  unfold minted opened
  iintro ⟨⟨HS0, HS1, HV0, HV1, Hq⟩, HB, Hst, Ha, Hr, Ht⟩
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k : Fin 5 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [HS0 HS1 HV0 HV1 HB Hst] with HI
  · isplitr [Hst]
    · rw [bigSep_five]
      isplitl [HB]; · iexact HB
      isplitl [HS0]; · iexact HS0
      isplitl [HS1]; · iexact HS1
      isplitl [HV0] <;> iassumption
    · iexact Hst
  imodintro
  isplitl [HI]; · iexact HI
  isplitl [Ha]; · iexact Ha
  isplitl [Hr]; · iexact Hr
  isplitl [Ht] <;> iassumption

/-! ## The deal -/

/-- What a device starts with, at the invariants' names `K`, beside the records. -/
def hand (c : Dev nD) : sProp 𝕄 :=
  iprop((payTok c false ∗ payTok c true) ∗ (bigSep Finset.univ fun k : Fin 5 => atPos ER (kcell (c, k)) 0 ∅ 0) ∗ quiet c)
/-- What a device starts with. -/
def portion (c : Dev nD) : sProp 𝕄 := iprop(∃ K, records m K ∗ hand c)

/-- Device `c`'s tokens that are paid with by raises towards side `d`. -/
def towards (d : Bool) (c : Dev nD) : sProp 𝕄 :=
  iprop(dutyTok ER (bar c) 0 (!d) ∗ dutyTok ER (snd d c) 0 d ∗ dutyTok ER (rcv (!d) c) 0 (!d))

omit [FloatOps F] in
/-- A device's own tokens, by the direction of the raises that pay with them. -/
theorem swap (c : Dev nD) : iprop(ownTok false c ∗ ownTok true c) ⊢ (iprop(towards false c ∗ towards true c) : sProp 𝕄) := by
  unfold ownTok towards
  iintro ⟨⟨HB0, HS0, HV0⟩, HB1, HS1, HV1⟩
  isplitl [HB1 HS0 HV1]
  · isplitl [HB1]; · iexact HB1
    isplitl [HS0]; · iexact HS0
    iexact HV1
  · isplitl [HB0]; · iexact HB0
    isplitl [HS1]; · iexact HS1
    iexact HV0

omit [FloatOps F] in
/-- The tokens of side `d` reach the devices that pay with them: a barrier's and a receive cell's go to the neighbour. -/
theorem deal (d : Bool) : (bigSep Finset.univ fun c : Dev nD => towards d c)
    ⊢ (bigSep Finset.univ fun c : Dev nD => payTok (F := F) c d : sProp 𝕄) := by
  unfold payTok towards
  simp only [bigSep_sep']
  rw [bigSep_univ_equiv (turn d) (fun c : Dev nD => (dutyTok ER (bar c) 0 (!d) : sProp 𝕄)),
    bigSep_univ_equiv (turn d) (fun c : Dev nD => (dutyTok ER (rcv (!d) c) 0 (!d) : sProp 𝕄))]
  exact BI.Entails.refl _

omit [FloatOps F] in
/-- Both sides' tokens are dealt. -/
theorem deal_all : (bigSep Finset.univ fun c : Dev nD => iprop(ownTok false c ∗ ownTok true c))
    ⊢ (bigSep Finset.univ fun c : Dev nD => iprop(payTok (F := F) c false ∗ payTok c true) : sProp 𝕄) := by
  rw [bigSep_sep' Finset.univ (fun c : Dev nD => payTok (F := F) c false)]
  iintro H
  ihave H := (show (bigSep Finset.univ fun c : Dev nD => iprop(ownTok false c ∗ ownTok true c))
      ⊢ (iprop((bigSep Finset.univ fun c : Dev nD => towards false c) ∗ bigSep Finset.univ fun c : Dev nD => towards true c) : sProp 𝕄) from by
    rw [← bigSep_sep' Finset.univ (fun c : Dev nD => towards (F := F) false c)]
    exact bigSep_mono fun c _ => swap (F := F) c) $$ H
  icases H with ⟨H0, H1⟩
  isplitl [H0]
  · iapply (deal (F := F) false); iexact H0
  · iapply (deal (F := F) true); iexact H1

omit [FloatOps F] in
/-- What every device may use over and over goes to each of them. -/
theorem to_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  BI.Entails.trans (sep_mono_left (BI.bigSep_of_persistent Finset.univ R))
    (BI.Entails.trans (Entails.of_eq (bigSep_sep' Finset.univ (fun _ : Dev nD => R) Φ).symm) (bigSep_mono fun c _ => h c))

omit [FloatOps F] in
/-- The hands of all devices, put together. -/
theorem hands : iprop((bigSep Finset.univ fun c : Dev nD => iprop(payTok c false ∗ payTok c true))
      ∗ (bigSep Finset.univ fun c : Dev nD => bigSep Finset.univ fun k : Fin 5 => atPos ER (kcell (c, k)) 0 ∅ 0) ∗ bigSep Finset.univ fun c : Dev nD => quiet c)
    ⊢ (bigSep Finset.univ fun c : Dev nD => hand c : sProp 𝕄) := by
  unfold hand
  rw [bigSep_sep' Finset.univ (fun c : Dev nD => (iprop(payTok c false ∗ payTok c true) : sProp 𝕄)),
    bigSep_sep' Finset.univ (fun c : Dev nD => (bigSep Finset.univ fun k : Fin 5 => atPos ER (kcell (c, k)) 0 ∅ 0 : sProp 𝕄))]

omit [FloatOps F] in
/-- The opened cells of all devices, dealt. -/
theorem dealing : (bigSep Finset.univ fun c : Dev nD => opened m c) ⊢ (bigSep Finset.univ (portion m) : sProp 𝕄) := by
  unfold opened
  rw [bigSep_sep', bigSep_sep', bigSep_sep', bigSep_sep',
    ← bigSep_univ_prod (fun ck : Dev nD × Fin 5 => iprop(∃ κ : ℕ, cellInv ER (sched m) κ (kcell ck))),
    ← bigSep_univ_prod (fun ck : Dev nD × Fin 5 => (reached ER (kcell ck) 0 : sProp 𝕄))]
  iintro ⟨HI, Ha, #HR, Ht, Hq⟩
  ihave HK := (BI.bigSep_exists_pi Finset.univ (fun (ck : Dev nD × Fin 5) (κ : ℕ) => (cellInv ER (sched m) κ (kcell ck) : sProp 𝕄))) $$ HI
  icases HK with ⟨%K, #HI⟩
  ihave Ht := (deal_all (F := F)) $$ Ht
  iapply (to_each (R := records m K) (Φ := hand) fun c => (show iprop(records m K ∗ hand c) ⊢ portion m c from by
    unfold portion; iintro H; iexists K; iexact H))
  isplitr
  · unfold records; isplitl; · iexact HI
    iexact HR
  iapply (hands (F := F))
  isplitl [Ht]; · iexact Ht
  isplitl [Ha] <;> iassumption

omit [FloatOps F] in
/-- The step all devices take together. -/
theorem together : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (portion m) :=
  ((bigSep_mono fun c _ => opening m c).trans (bigSep_fupd _ _)).trans (BI.fupd_mono (dealing m))

end Cert.Stencil

end
-- ==== Proof.Credits.lean ====
/-
  # What each device may wait for at the start

  Every unit a device owes at the launch is a unit another device may wait for.  Added up over the devices, a barrier may
  be waited on for as many units as its device has neighbours, and a receive cell for a row's credit if there is a
  neighbour to send the row.
-/
module

public import proofs.«01_k».proof.Proof.Schedule

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One family of debts -/

omit [FloatOps F] in
/-- If device `x` owes `n x` at the cell `sm` of device `e x`, then device `c` may wait there for what `e⁻¹ c` owes. -/
theorem credit_of (e : Dev nD ≃ Dev nD) (sm : SemLoc sig) (n : Dev nD → ℕ) (c : Dev nD) :
    (Pipeline.launchCred (fun x => tallyAt ((e x : Thread nD τ), sm) () (n x)) c : sProp 𝕄)
      ⊢ cred (tallyAt ((c : Thread nD τ), sm) () (n (e.symm c))) := by
  refine (Pipeline.launchCred_elim _ c sm).trans (Entails.of_eq (congrArg (fun t => (cred t : sProp 𝕄)) ?_))
  unfold tallyAt
  refine congrArg _ (Finsupp.ext fun u => ?_)
  cases u
  have hcell (x : Dev nD) : (((c : Thread nD τ), sm) = ((e x : Thread nD τ), sm) ∧ () = ()) ↔ e.symm c = x := by
    rw [and_iff_left rfl, Equiv.symm_apply_eq]
    exact ⟨fun h => congrArg (fun g : GSem nD τ sig => g.1.1) h, fun h => by rw [h]⟩
  rw [Pipeline.launchCredit_owing, Finsupp.single_eq_same]
  refine (Finset.sum_congr rfl fun x _ => (tallyAt_apply _ _ _ _ _).trans (if_congr (hcell x) rfl rfl)).trans ?_
  exact (Finset.sum_ite_eq Finset.univ (e.symm c) n).trans (if_pos (Finset.mem_univ _))

/-- The neighbour that owes to `c` from side `d` has `c` on its other side. -/
theorem side_back (d : Bool) (c : Dev nD) : Side ((turn d).symm c) d ↔ Side c (!d) := by
  have h := side_nb (!d) c
  rwa [Bool.not_not] at h

omit [FloatOps F] in
/-- The units owed at the barriers to side `d`. -/
theorem credit_bar (d : Bool) (c : Dev nD) :
    (Pipeline.launchCred (oweBar d) c : sProp 𝕄) ⊢ cred (tallyAt (bar c) () (if Side c (!d) then 1 else 0)) :=
  (credit_of (turn d) (.reg barS) (fun x => if Side x d then 1 else 0) c).trans
    (Entails.of_eq (by rw [if_congr (side_back d c) rfl rfl]))

omit [FloatOps F] in
/-- The rows' credit owed to side `d`. -/
theorem credit_row (d : Bool) (c : Dev nD) :
    (Pipeline.launchCred (oweRow d) c : sProp 𝕄) ⊢ cred (tallyAt (rcv (!d) c) () (if Side c (!d) then rowN else 0)) :=
  (credit_of (turn d) (.dma (rcvS (!d))) (fun x => if Side x d then rowN else 0) c).trans
    (Entails.of_eq (by rw [if_congr (side_back d c) rfl rfl]))

/-! ## All of them -/

omit [FloatOps F] in
/-- All a device may wait for at the launch. -/
theorem credits (c : Dev nD) : (Pipeline.launchCred O₀ c : sProp 𝕄)
    ⊢ iprop(cred (tallyAt (bar c) () (degree c)) ∗ cred (tallyAt (rcv false c) () (if Side c false then rowN else 0))
      ∗ cred (tallyAt (rcv true c) () (if Side c true then rowN else 0))) := by
  rw [show (O₀ : Dev nD → CellTallies nD τ sig Unit) = fun x => ((fun x => O₁ x + oweBar true x) x) + oweBar false x from rfl,
    Pipeline.launchCred_add, Pipeline.launchCred_add O₁ (oweBar true),
    show (O₁ : Dev nD → CellTallies nD τ sig Unit) = fun x => ((fun x => 0 + oweRow true x) x) + oweRow false x from rfl,
    Pipeline.launchCred_add, show (fun x : Dev nD => 0 + oweRow true x) = oweRow true from funext fun x => zero_add _]
  iintro ⟨⟨⟨HvL, HvR⟩, HbL⟩, HbR⟩
  isplitl [HbL HbR]
  · unfold degree
    iapply (Entails.of_eq (congrArg (fun t => (cred t : sProp 𝕄)) (tallyAt_add (bar c) () (if Side c false then 1 else 0) (if Side c true then 1 else 0))))
    iapply (cred_add _ _).2
    isplitl [HbL]
    · iapply (credit_bar (F := F) true c); iexact HbL
    · iapply (credit_bar (F := F) false c); iexact HbR
  isplitl [HvL]
  · iapply (credit_row (F := F) true c); iexact HvL
  · iapply (credit_row (F := F) false c); iexact HvR

end Cert.Stencil

end
-- ==== Proof.Launch.lean ====
/-
  # The run of all devices

  The launch deals every device its share of the rounds and of the credit; each device's body runs; at the end every
  device's result holds `yAt`, its input what it held, and every semaphore counter is zero.
-/
module

public import Idealize.ShloMosaic.Lib.Pipeline.CollectiveSegs
public import Idealize.ShloMosaic.Lib.Quiescent
public import proofs.«01_k».proof.Proof.Body
public import proofs.«01_k».proof.Proof.Fund
public import proofs.«01_k».proof.Proof.Credits

@[expose] public section

noncomputable section

namespace Cert.Stencil

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What the body has before and after -/

/-- The two arrays of device `c`, its result's holding `o`. -/
def arrays (c : Dev nD) (o : Blk F) : sProp 𝕄 :=
  iprop((xLoc c ↦[Finset.univ]{fullShare} xAt m c) ∗ (oLoc c ↦[Finset.univ]{fullShare} o))
/-- What a device starts with, its buffers apart. -/
def start (c : Dev nD) : sProp 𝕄 :=
  iprop(portion m c ∗ levAts L lv ∗ (cred (tallyAt (bar c) () (degree c)) ∗ cred (tallyAt (rcv false c) () (if Side c false then rowN else 0))
      ∗ cred (tallyAt (rcv true c) () (if Side c true then rowN else 0))) ∗ ∃ o, arrays m c o)
/-- The device's buffers in vector memory, with anything in them. -/
def scratch (c : Dev nD) : sProp 𝕄 :=
  iprop((∃ f : Blk F, xvLoc c ↦[Finset.univ]{fullShare} f) ∗ (∃ f : Blk F, yLoc c ↦[Finset.univ]{fullShare} f) ∗ (∃ f : Hal F, hLoc c ↦[Finset.univ]{fullShare} f))
/-- What a device ends with, its buffers apart. -/
def ending (c : Dev nD) : sProp 𝕄 := iprop(unscopedSems0 c ∗ arrays m c (yAt m c))
/-- The kernel's own counters, back at zero. -/
abbrev ownZero (c : Dev nD) : sProp 𝕄 := Pipeline.ownSems0 (Ix := Unit) (Name := ℕ) (U := UU) (Lvl := ℕ) (Val := Elt F) (τ := τ) osem c

/-- Before the body. -/
def before (c : Dev nD) : sProp 𝕄 := iprop(start m c ∗ scratch c)
/-- After it. -/
def after (c : Dev nD) : sProp 𝕄 := iprop(ending m c ∗ ownZero c ∗ scratch c)

/-- The kernel has no windows; what changes at its one point is only what is held. -/
def dats (_ : Fin 1) (c : Dev nD) : Dat τ (Elt F) Unit ℕ UU ℕ cfg0 c where
  A w := m ((cfg0.win w).arr.view.loc (c : Thread nD τ))
  after w _ := (show Fin 0 from w).elim0
  Φ t := match t with
    | ⟨0, _⟩ => before m c
    | ⟨_ + 1, _⟩ => after m c
  q _ := fullShare
  owed t := match t with
    | ⟨0, _⟩ => O₀ c
    | ⟨_ + 1, _⟩ => 0

/-- From the one to the other. -/
theorem body_whole (c : Dev nD) (W : Waits sig Unit) (Q : PUnit → sProp 𝕄) :
    iprop((before m c ∗ owes (c : Thread nD τ) (O₀ c) W) ∗ (iprop(after m c ∗ ∃ W, owes (c : Thread nD τ) 0 W) -∗ Q ⟨⟩))
      ⊢ runs c (cc0_body (F := F) xM (Memref.isWhole_whole _) oM (Memref.isWhole_whole _) xvM (Memref.isWhole_whole _) yvM (Memref.isWhole_whole _)
          hM (Memref.isWhole_whole _) cc0_scratch3 cc0_scratch4 cc0_scratch5) Q := by
  unfold before start scratch portion hand quiet arrays
  rw [bigSep_five]
  iintro ⟨⟨⟨⟨⟨%K, #HR, ⟨Ht0, Ht1⟩, ⟨HaB, HaS0, HaS1, HaV0, HaV1⟩, Hin, Hsb, Hsh, Hst⟩, #Hlev, ⟨HcB, HcV0, HcV1⟩, ⟨%o, Hx, Ho⟩⟩, ⟨%xv, Hxv⟩, ⟨%y, Hy⟩, ⟨%f, Hh⟩⟩, HO⟩, Hk⟩
  iapply (run_body m K c W f xv y o)
  unfold bodyPre await
  isplitr [Hk]
  · isplitr; · iexact HR
    isplitl [Ht0]; · iexact Ht0
    isplitl [Ht1]; · iexact Ht1
    isplitl [HaS0 HaV0 HcV0]
    · isplitl [HaS0]; · iexact HaS0
      isplitl [HaV0]; · iexact HaV0
      iexact HcV0
    isplitl [HaS1 HaV1 HcV1]
    · isplitl [HaS1]; · iexact HaS1
      isplitl [HaV1]; · iexact HaV1
      iexact HcV1
    isplitl [HaB]; · iexact HaB
    isplitl [HcB]; · iexact HcB
    isplitr; · iexact Hlev
    isplitl [HO]; · iexact HO
    isplitl [Hx]; · iexact Hx
    isplitl [Ho]; · iexact Ho
    isplitl [Hxv]; · iexact Hxv
    isplitl [Hy]; · iexact Hy
    isplitl [Hh]; · iexact Hh
    isplitl [Hin]; · iexact Hin
    isplitl [Hsb]; · iexact Hsb
    isplitl [Hsh] <;> iassumption
  unfold bodyPost
  iintro ⟨HO, Hx, Ho, Hxv, Hy, Hh, HzB, HzS0, HzS1, HzV0, HzV1, Hin, Hsb, Hsh, Hst⟩
  iapply Hk
  isplitr [HO]
  · unfold after ending arrays scratch ownZero
    rw [own_sems, bar_sem]
    unfold quiet
    isplitl [HzB Hx Ho]
    · isplitl [HzB]; · iexact HzB
      isplitl [Hx] <;> iassumption
    isplitr [Hxv Hy Hh]
    · isplitl [HzS0]; · iexact HzS0
      isplitl [HzS1]; · iexact HzS1
      isplitl [HzV0]; · iexact HzV0
      isplitl [HzV1]; · iexact HzV1
      isplitl [Hin]; · iexact Hin
      isplitl [Hsb]; · iexact Hsb
      isplitl [Hsh] <;> iassumption
    · isplitl [Hxv]; · iexact Hxv
      isplitl [Hy] <;> iassumption
  · iexact HO

omit [FloatOps F] in
/-- The kernel has no windows. -/
theorem no_windows (Φ : Fin cfg0.W → sProp 𝕄) : bigSep Finset.univ Φ = iprop(emp) := by
  show bigSep (Finset.univ : Finset (Fin 0)) Φ = _
  rw [Finset.univ_eq_empty, BI.bigSep_empty]; rfl

/-- What the launch asks of the body on device `c`. -/
theorem body_obligation (c : Dev nD) : BodyObligation (dats (F := F) m 0 c) (defs₀ (F := F)) 𝒱₀ () Set.univ := fun t => by
  rw [show t = t0_0 from fin_N0 t, no_windows, no_windows]
  show iprop(before m c ∗ (dats m 0 c).owesAt () (Fin.castSucc t0_0) ∗ emp) ⊢ wp frame (wpE (defs₀ (F := F)) 𝒱₀ (c : Thread nD τ) none) Set.univ
    (cc0_body (F := F) xM (Memref.isWhole_whole _) oM (Memref.isWhole_whole _) xvM (Memref.isWhole_whole _) yvM (Memref.isWhole_whole _)
          hM (Memref.isWhole_whole _) cc0_scratch3 cc0_scratch4 cc0_scratch5) (fun _ => iprop(after m c ∗ (dats m 0 c).owesAt () (Fin.succ t0_0) ∗ emp))
  unfold Dat.owesAt Pipeline.owesWithin
  rw [show (dats m 0 c).owed (Fin.castSucc t0_0) = O₀ c from rfl, show (dats m 0 c).owed (Fin.succ t0_0) = 0 from rfl]
  iintro ⟨HΦ, ⟨%W, -, HO⟩, -⟩
  iapply (body_whole m c W)
  isplitl [HΦ HO]
  · isplitl [HΦ] <;> iassumption
  iintro ⟨HΦ, ⟨%W', HO⟩⟩
  isplitl [HΦ]; · iexact HΦ
  isplitl [HO]
  · iexists W'
    isplitr; · ipureintro; exact fun _ _ => Or.inl trivial
    iexact HO
  iempintro

/-! ## The launch -/

/-- The element of the resource algebra the launch starts from. -/
def u₀ : UU := (initOf (Pipeline.cells cfgs cellOf_inj) (Pipeline.launchToks cfgs cellOf_inj), (initOf allCells allToks, 1))

omit [FloatOps F] in
/-- The part of it the rounds of the cells are minted from. -/
theorem rounds_part (u : UB × Counters) (hu : u.2 = 1) :
    (BI.own ((embR : Emb (UB × Counters) 𝕄) u) : sProp 𝕄) ⊢ BI.own (ER u.1) := by
  obtain ⟨a, b⟩ := u
  exact (own_pair_emb _ a b).trans (by iintro ⟨H, -⟩; iexact H)

omit [FloatOps F] in
/-- From it every device's rounds are minted. -/
theorem minting : (ownU u₀ : sProp 𝕄) ⊢ |={Set.univ}=> iprop(BI.own (EP (initOf (Pipeline.cells cfgs cellOf_inj) (Pipeline.launchToks cfgs cellOf_inj)))
    ∗ bigSep Finset.univ (minted m)) := by
  unfold u₀
  iintro H
  ihave H := (ownU_pair _ _) $$ H
  icases H with ⟨HP, HX⟩
  ihave HX := (rounds_part (F := F) (initOf allCells allToks, 1) rfl) $$ HX
  imod (mint m) $$ HX with HG
  imodintro
  isplitl [HP] <;> iassumption

omit [FloatOps F] in
/-- A device's share of the launch is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ portion m c)
      ⊢ |={Set.univ}=> iprop(start m c ∗ emp) := by
  rw [Pipeline.unscopedRestP_none, unscopedRest0_eq]
  iintro ⟨⟨Hx, Ho⟩, Hlev, Hc, -, HG⟩
  ihave Hc := (credits (F := F) c) $$ Hc
  imodintro
  isplitl
  · unfold start arrays
    isplitl [HG]; · iexact HG
    isplitl [Hlev]; · iexact Hlev
    isplitl [Hc]; · iexact Hc
    iexists _
    isplitl [Hx]; · iexact Hx
    iexact Ho
  · iempintro

/-- With its buffers, that is what the body starts from. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-- What the body ends with is what the launch takes back. -/
theorem after_elim (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = after m c from rfl, scopedRest0_eq]
  unfold after scratch ownZero
  exact BI.Entails.refl _

/-- No wait is the launch's own. -/
theorem no_waits (c : Dev nD) : (levAts L lv : sProp 𝕄) ⊢ Pipeline.cellsWaits cfgs (dats m) () 0 c :=
  Pipeline.cellsWaits_intro cfgs (dats m) () 0 c fun w => (show Fin 0 from w).elim0

/-- What a final state holds on device `c`. -/
def Holds (c : Dev nD) (s : MemSt nD τ sig (Elt F)) : Prop :=
  (∀ sm : SemLoc sig, sm.isScoped .tc = false → s.sem ((c.tc : Thread nD τ), sm) = 0) ∧ s.mem (xLoc c) = xAt m c ∧ s.mem (oLoc c) = yAt m c

/-- What a device ends with is read off the final state. -/
theorem ending_read (c : Dev nD) (s' : Phys nD τ sig (Elt F)) :
    iprop(ending m c ∗ emp ∗ SI s') ⊢ |={Set.univ}=> iprop(⌜Holds m c s'.mem⌝ ∗ SI s') := by
  unfold ending arrays
  iintro ⟨⟨Hz, Hx, Ho⟩, -, HS⟩
  icombine HS Hx gives %hx
  icombine HS Ho gives %ho
  imod (Pipeline.unscopedSems0_read (X := unscopedSems0 c) (c := c) fupd_intro s') $$ [Hz HS] with ⟨%hz, HS⟩
  · isplitl [Hz] <;> iassumption
  imodintro
  isplitr
  · ipureintro
    exact ⟨hz, Buf.eq_of_forall_mem_univ hx, Buf.eq_of_forall_mem_univ ho⟩
  · iexact HS

set_option maxRecDepth 8000 in
/-- From any memory with every counter at zero, all devices run to their end, and then each device's result is `yAt`, its
    input is what it was, and every counter is zero again. -/
theorem run_main : θ_run defs (onTc (τ := τ) (main (F := F))) ⟨m, fun _ => 0, ρ⟩
    (fun r => (∀ c : Dev nD, r.2.mem (xLoc c) = xAt m c ∧ r.2.mem (oLoc c) = yAt m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => (show Fin 0 from w).elim0) (harr := arr_whole0) (hstage := stage_whole0)
    (hshare := fun _ w => (show Fin 0 from w).elim0)
    (hdistinct := winFacts0.arr_inj)
    (O₀ := O₀) (howed₀ := fun _ => rfl) (howedN := fun _ => rfl)
    (L := L) (lv := lv) (hL := L_of_ne) (hwaits := no_waits m)
    (G := minted m) (G' := portion m) (u₀ := u₀) (hu₀ := minting m) (hglob := together m)
    (hA := fun _ _ => rfl) (hpf := fun _ k => k.elim0)
    (X := start m) (Y := ending m) (Z := fun _ => iprop(emp))
    (hX := start_intro m ρ) (hin := before_intro m) (hout := after_elim m)
    (QY := Holds m) (hY := ending_read m)
    (hQ := fun _ h hs => ⟨fun c => (h c).2.2.2, sem_eq_zero hs fun c => (h c).2.2.1⟩)

end Cert.Stencil

end
-- ==== Proof.Value.lean ====
/-
  # The kernel's block, one element at a time

  Each of the three bands the kernel stores (first row, inner rows, last row), read at an index, as a weighted sum of
  three elements of the input. This holds over any float values.
-/
module

public import proofs.«01_k».proof.Proof.Contents

@[expose] public section

noncomputable section

namespace Cert.Stencil

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- A quarter, as the float value the programs name. -/
abbrev quarter : F .f32 := FloatOps.ofBits .f32 0x3E800000#32
/-- A half, as the float value the programs name. -/
abbrev half : F .f32 := FloatOps.ofBits .f32 0x3F000000#32

/-- The weighted sum in the order the reference takes it: above, the row itself, below. -/
def inOrder (a b c : F .f32) : F .f32 :=
  FloatOps.addf (FloatOps.addf (FloatOps.mulf quarter a) (FloatOps.mulf half b)) (FloatOps.mulf quarter c)

/-- The weighted sum with the two outer rows added first, as the kernel takes it for its inner rows. -/
def outerFirst (a b c : F .f32) : F .f32 :=
  FloatOps.addf (FloatOps.mulf quarter (FloatOps.addf a c)) (FloatOps.mulf half b)

/-- A cast of an array to its own shape changes nothing. -/
theorem cast_own {α : Type} {s : Shape} (v : s.Idx → α) (h : s.ShapeCasts s) (i : s.Idx) : shapeCast s v h i = v i :=
  congrArg v (Shape.reshapeEquiv_self h i)

/-- Inner row `r + 1`: the outer rows first. -/
theorem innerOf_apply (x : Blk F) (r : ℕ) (h : r < 1022) (j : Fin 512) :
    innerOf x (inBand 1022 r h j)
      = outerFirst (x (at2 ⟨r, by omega⟩ j)) (x (at2 ⟨r + 1, by omega⟩ j)) (x (at2 ⟨r + 2, by omega⟩ j)) := by
  unfold innerOf k0_pay4
  rw [cast_own]
  have e0 : k0_pay1 x (inBand 1022 r h j)
      = FloatOps.mulf quarter (FloatOps.addf (x (at2 ⟨r, by omega⟩ j)) (x (at2 ⟨r + 2, by omega⟩ j))) := by
    refine congrArg (FloatOps.mulf quarter) (congrArg₂ FloatOps.addf (congrArg x ?_) (congrArg x ?_))
    · exact idx_ext (by show 0 + r = r; omega) (by show 0 + j.val = j.val; omega)
    · exact idx_ext (by show 2 + r = r + 2; omega) (by show 0 + j.val = j.val; omega)
  have e1 : k0_pay2 x (inBand 1022 r h j) = x (at2 ⟨r + 1, by omega⟩ j) :=
    congrArg x (idx_ext (by show 1 + r = r + 1; omega) (by show 0 + j.val = j.val; omega))
  show FloatOps.addf (k0_pay1 x _) (FloatOps.mulf half (k0_pay2 x _)) = _
  rw [e0, e1]; rfl

/-- Row `r` of the block, cut out as a band of one row. -/
theorem cut_row (x : Blk F) (r : ℕ) (hr : r < 1024) (h : S1024x512.Slices ![r, 0] S1x512) (j : Fin 512) :
    extractStridedSlice S1x512 ![r, 0] x h (inBand 1 0 (by decide) j) = x (at2 ⟨r, hr⟩ j) :=
  congrArg x (idx_ext (by show r + 0 = r; omega) (by show 0 + j.val = j.val; omega))

/-- The first row where there is a left neighbour: its halo row is the row above. -/
theorem firstOf_in (c : Dev nD) (hc : Side c false) (x : Blk F) (top : S1x512.Idx → Elt F .f32) (j : Fin 512) :
    firstOf c x top (inBand 1 0 (by decide) j) = inOrder (top (inBand 1 0 (by decide) j)) (x (at2 0 j)) (x (at2 1 j)) := by
  unfold firstOf k0_pay5
  rw [cast_own, Scalar.select, if_pos (show wL c = (1 : BitVec 1) from (wL_iff c).mpr hc)]
  show FloatOps.addf (FloatOps.addf _ (FloatOps.mulf half (extractStridedSlice S1x512 ![0, 0] x _ _)))
    (FloatOps.mulf quarter (extractStridedSlice S1x512 ![1, 0] x _ _)) = _
  rw [cut_row x 0 (by decide), cut_row x 1 (by decide)]; rfl

/-- The first row where there is no left neighbour is the input's. -/
theorem firstOf_out (c : Dev nD) (hc : ¬ Side c false) (x : Blk F) (top : S1x512.Idx → Elt F .f32) (j : Fin 512) :
    firstOf c x top (inBand 1 0 (by decide) j) = x (at2 0 j) := by
  unfold firstOf k0_pay5
  rw [cast_own, Scalar.select, if_neg (show ¬ wL c = (1 : BitVec 1) from fun e => hc ((wL_iff c).mp e))]
  exact cut_row x 0 (by decide) _ j

/-- The last row where there is a right neighbour: its halo row is the row below. -/
theorem lastOf_in (c : Dev nD) (hc : Side c true) (x : Blk F) (bot : S1x512.Idx → Elt F .f32) (j : Fin 512) :
    lastOf c x bot (inBand 1 0 (by decide) j)
      = inOrder (x (at2 1022 j)) (x (at2 1023 j)) (bot (inBand 1 0 (by decide) j)) := by
  unfold lastOf k0_pay9
  rw [cast_own, Scalar.select, if_pos (show wR c = (1 : BitVec 1) from (wR_iff c).mpr hc)]
  have e6 : k0_pay6 x (inBand 1 0 (by decide) j) = FloatOps.mulf quarter (x (at2 1022 j)) :=
    congrArg (FloatOps.mulf quarter) (cut_row x 1022 (by decide) _ j)
  have e7 : k0_pay7 x (inBand 1 0 (by decide) j) = x (at2 1023 j) := cut_row x 1023 (by decide) slices_S1024x512_o1023_0_S1x512 j
  show FloatOps.addf (FloatOps.addf (k0_pay6 x _) (FloatOps.mulf half (k0_pay7 x _))) _ = _
  rw [e6, e7]; rfl

/-- The last row where there is no right neighbour is the input's. -/
theorem lastOf_out (c : Dev nD) (hc : ¬ Side c true) (x : Blk F) (bot : S1x512.Idx → Elt F .f32) (j : Fin 512) :
    lastOf c x bot (inBand 1 0 (by decide) j) = x (at2 1023 j) := by
  unfold lastOf k0_pay9
  rw [cast_own, Scalar.select, if_neg (show ¬ wR c = (1 : BitVec 1) from fun e => hc ((wR_iff c).mp e))]
  exact cut_row x 1023 (by decide) _ j

omit [FloatOps F] in
/-- The halo row above is the left neighbour's last row. -/
theorem above_apply (c : Dev nD) (j : Fin 512) :
    haloRow false (haloAt m c) (inBand 1 0 (by decide) j) = xAt m (nb false c) (at2 1023 j) :=
  (haloAt_left m c ((hrow false).view.emb (inBand 1 0 (by decide) j)) rfl).trans
    (congrArg (xAt m (nb false c)) (idx_ext rfl (by show 0 + 1 * j.val = j.val; omega)))

omit [FloatOps F] in
/-- The halo row below is the right neighbour's first row. -/
theorem below_apply (c : Dev nD) (j : Fin 512) :
    haloRow true (haloAt m c) (inBand 1 0 (by decide) j) = xAt m (nb true c) (at2 0 j) :=
  (haloAt_right m c ((hrow true).view.emb (inBand 1 0 (by decide) j)) (by show ¬ 1 + 1 * 0 = 0; omega)).trans
    (congrArg (xAt m (nb true c)) (idx_ext rfl (by show 0 + 1 * j.val = j.val; omega)))

end Cert.Stencil

end
-- ==== Proof.RefValue.lean ====
/-
  # The reference's result, one element at a time

  The reference joins the array's first row, a weighted sum of three shifted copies, and the array's last row. Read at
  an index, an end row is the input's and any other row is the weighted sum of the three rows around it.
-/
module

public import proofs.«01_k».proof.Proof.Value
public import proofs.«01_k».proof.Proof.Gen.ReferenceIdeal.Run
public import Idealize.ShloMosaic.Lib.Pipeline.Value

@[expose] public section

noncomputable section

namespace Cert.Stencil

open Cert.ReferenceIdeal Cert.ReferenceIdeal.Gen
open Idealize.ShloMosaic Idealize.ShloMosaic.TcCoe

variable {F : FTy → Type} [FloatOps F]

/-- Contents of the whole array. -/
abbrev Whole (F : FTy → Type) : Type := S16384x512.Idx → Elt F .f32

/-- Row `r`, column `j` of the whole array. -/
abbrev atW (r : ℕ) (h : r < 16384) (j : Fin 512) : S16384x512.Idx := Shape.pair (d := ![16384, 512]) ⟨r, h⟩ j

/-- The weighted sums of the rows but the ends. -/
def midRows (x : Whole F) : FVec F S16382x512 .f32 :=
  addf (addf (mulf (broadcastInDim S16382x512 ![] bcast_S_S16382x512 (constant S_ .f32 0x3E800000#32))
        (extractStridedSlice S16382x512 ![0, 0] x slices_S16384x512_S16382x512_0_0))
      (mulf (broadcastInDim S16382x512 ![] bcast_S_S16382x512 (constant S_ .f32 0x3F000000#32))
        (extractStridedSlice S16382x512 ![1, 0] x slices_S16384x512_S16382x512_1_0)))
    (mulf (broadcastInDim S16382x512 ![] bcast_S_S16382x512 (constant S_ .f32 0x3E800000#32))
      (extractStridedSlice S16382x512 ![2, 0] x slices_S16384x512_S16382x512_2_0))

/-- The three pieces the reference joins. -/
def pieces (x : Whole F) : List ((s : Shape) × (s.Idx → Elt F .f32)) :=
  [⟨S1x512, extractStridedSlice S1x512 ![0, 0] x slices_S16384x512_S1x512_0_0⟩, ⟨S16382x512, midRows x⟩,
    ⟨S1x512, extractStridedSlice S1x512 ![16383, 0] x slices_S16384x512_S1x512_16383_0⟩]

/-- What the reference computes. -/
def wholeOut (x : Whole F) : Whole F :=
  concatenate S16384x512 0 (pieces x) concatenates_S1x512_S16382x512_S1x512_S16384x512_d0

/-- A middle row before joining. -/
theorem midRows_apply (x : Whole F) (r : ℕ) (h : r < 16382) (j : Fin 512) :
    midRows x (inBand 16382 r h j)
      = inOrder (x (atW r (by omega) j)) (x (atW (r + 1) (by omega) j)) (x (atW (r + 2) (by omega) j)) := by
  have cut : ∀ (o : ℕ) (hs : S16384x512.Slices ![o, 0] S16382x512) (ho : r + o < 16384),
      extractStridedSlice S16382x512 ![o, 0] x hs (inBand 16382 r h j) = x (atW (r + o) ho j) := fun o hs ho =>
    congrArg x (idx_ext (by show o + r = r + o; omega) (by show 0 + j.val = j.val; omega))
  show FloatOps.addf (FloatOps.addf (FloatOps.mulf quarter (extractStridedSlice S16382x512 ![0, 0] x _ _))
      (FloatOps.mulf half (extractStridedSlice S16382x512 ![1, 0] x _ _)))
    (FloatOps.mulf quarter (extractStridedSlice S16382x512 ![2, 0] x _ _)) = _
  rw [cut 0 _ (by omega), cut 1 _ (by omega), cut 2 _ (by omega)]; rfl

/-- Row 0 is the input's. -/
theorem wholeOut_top (x : Whole F) (j : Fin 512) : wholeOut x (atW 0 (by decide) j) = x (atW 0 (by decide) j) := by
  refine (concatenate_apply_piece (t := S16384x512) 0 (pieces x) _ (atW 0 (by decide) j) 0 (by show 0 < 3; decide) S1x512 _ rfl rfl 0 rfl
    (inBand 1 0 (by decide) j) ?_ rfl).trans ?_
  · intro b hb
    rcases b with ⟨_ | _ | n, hx⟩
    · exact absurd (Fin.ext rfl) hb
    · rfl
    · exact absurd hx (by simp)
  · exact congrArg x (idx_ext (by show 0 + 0 = 0; rfl) (by show 0 + j.val = j.val; omega))

/-- Row 16383 is the input's. -/
theorem wholeOut_bottom (x : Whole F) (j : Fin 512) : wholeOut x (atW 16383 (by decide) j) = x (atW 16383 (by decide) j) := by
  refine (concatenate_apply_piece (t := S16384x512) 0 (pieces x) _ (atW 16383 (by decide) j) 2 (by show 2 < 3; decide) S1x512 _ rfl rfl 16383 rfl
    (inBand 1 0 (by decide) j) ?_ rfl).trans ?_
  · intro b hb
    rcases b with ⟨_ | _ | n, hx⟩
    · exact absurd (Fin.ext rfl) hb
    · rfl
    · exact absurd hx (by simp)
  · exact congrArg x (idx_ext (by show 16383 + 0 = 16383; rfl) (by show 0 + j.val = j.val; omega))

/-- Any other row is the weighted sum of the three rows around it. -/
theorem wholeOut_mid (x : Whole F) (r : ℕ) (h : r < 16382) (j : Fin 512) :
    wholeOut x (atW (r + 1) (by omega) j)
      = inOrder (x (atW r (by omega) j)) (x (atW (r + 1) (by omega) j)) (x (atW (r + 2) (by omega) j)) := by
  refine (concatenate_apply_piece (t := S16384x512) 0 (pieces x) _ (atW (r + 1) (by omega) j) 1 (by show 1 < 3; decide) S16382x512 _ rfl rfl 1 rfl
    (inBand 16382 r h j) ?_ (by show 1 + r = r + 1; omega)).trans (midRows_apply x r h j)
  intro b hb
  rcases b with ⟨_ | _ | n, hx⟩
  · exact absurd (Fin.ext rfl) hb
  · rfl
  · exact absurd hx (by simp)

end Cert.Stencil

end
-- ==== Proof.Equation.lean ====
/-
  # The devices' blocks are the blocks of the reference's result

  Over the extended reals the two orders of the weighted sum agree: a quarter is a finite positive number, so it
  distributes over a sum, and addition is commutative and associative. With the blocks cut from one whole array, the
  row above a block is the last row of the block before it and the row below is the first row of the block after it;
  at the ends of the array there is no such row, and both programs keep the input's.
-/
module

public import proofs.«01_k».proof.Proof.RefValue
public import Idealize.ShloMosaic.Lib.Layout
public import Idealize.ShloMosaic.PureOps.Ideal

@[expose] public section

noncomputable section

namespace Cert.Stencil

open Cert.KernelIdeal
open Idealize.ShloMosaic Idealize.ShloMosaic.TcCoe
open Idealize.SL.Sem

/-- A quarter is a real number that is not negative. -/
theorem quarter_real : ∃ r : ℝ, 0 ≤ r ∧ (quarter : Ideal .f32) = (r : EReal) := by
  refine ⟨(1 : ℝ) * (2 ^ 23 + 0 : ℕ) * (2 : ℝ) ^ ((125 : ℤ) - 127 - 23), by positivity, ?_⟩
  show Ideal.ofBits .f32 0x3E800000#32 = _
  simp [Ideal.ofBits, Ideal.ieee]

/-- The two orders of the weighted sum agree. -/
theorem orders_agree (a b c : Ideal .f32) : outerFirst a b c = inOrder a b c := by
  obtain ⟨r, hr, hq⟩ := quarter_real
  have h0 : (0 : EReal) ≤ (quarter : Ideal .f32) := by rw [hq]; exact EReal.coe_nonneg.mpr hr
  have h1 : (quarter : Ideal .f32) ≠ (⊤ : EReal) := by rw [hq]; exact EReal.coe_ne_top r
  have key : ∀ p q s t : EReal, 0 ≤ p → p ≠ ⊤ → p * (q + s) + t = p * q + t + p * s := fun p q s t hp hp' => by
    rw [EReal.left_distrib_of_nonneg_of_ne_top hp hp', add_right_comm]
  exact key _ a c _ h0 h1

variable (m : (ℓ : Loc nD τ sig) → Buf (Elt Ideal) ℓ) (x : Whole Ideal)

/-- Every device's block is its block of the whole array `x`. -/
def Cut : Prop := ∀ c : Dev nD, xAt m c = Layout.block ⟨2, ![1024, 512]⟩ ⟨2, ![16384, 512]⟩ 0 16 c x

/-- Row `1024 c + r` is within the whole array. -/
theorem row_lt (c : Dev nD) {r : ℕ} (hr : r < 1024) : c.val * 1024 + r < 16384 := by
  have : c.val < 16 := c.isLt
  omega

variable {m x}

/-- Row `r` of device `c`'s block is row `1024 c + r` of the whole array. -/
theorem Cut.row (h : Cut m x) (c : Dev nD) (r : Fin 1024) (j : Fin 512) :
    xAt m c (at2 r j) = x (atW (c.val * 1024 + r.val) (row_lt c r.isLt) j) := by
  rw [h c, Layout.block_apply]
  exact congrArg x (idx_ext rfl rfl)

/-- The same, the row of the whole array named by a number known equal. -/
theorem Cut.row' (h : Cut m x) (c : Dev nD) (r : Fin 1024) (j : Fin 512) (n : ℕ) (hn : n < 16384) (e : c.val * 1024 + r.val = n) :
    xAt m c (at2 r j) = x (atW n hn j) := by
  subst e; exact h.row c r j

/-- The first row. -/
theorem first_agrees (h : Cut m x) (c : Dev nD) (j : Fin 512) :
    firstOf c (xAt m c) (haloRow false (haloAt m c)) (inBand 1 0 (by decide) j)
      = wholeOut x (atW (c.val * 1024) (row_lt c (r := 0) (by decide)) j) := by
  have hlt : c.val < 16 := c.isLt
  by_cases hc : Side c false
  · have hpos : 0 < c.val := hc
    have hnb : (nb false c).val = c.val - 1 := by show (c.val + 15) % 16 = c.val - 1; omega
    obtain ⟨r, hr⟩ : ∃ r, c.val * 1024 = r + 1 := ⟨c.val * 1024 - 1, by omega⟩
    have hr' : r < 16382 := by omega
    rw [firstOf_in c hc, above_apply]
    rw [h.row' (nb false c) 1023 j r (by omega) (by rw [hnb]; show (c.val - 1) * 1024 + 1023 = r; omega),
      h.row' c 0 j (r + 1) (by omega) (by show c.val * 1024 + 0 = r + 1; omega),
      h.row' c 1 j (r + 2) (by omega) (by show c.val * 1024 + 1 = r + 2; omega)]
    exact (wholeOut_mid x r hr' j).symm.trans (congrArg (wholeOut x) (idx_ext hr.symm rfl))
  · have h0 : c.val = 0 := Nat.eq_zero_of_not_pos hc
    rw [firstOf_out c hc, h.row' c 0 j 0 (by decide) (by show c.val * 1024 + 0 = 0; omega)]
    exact (wholeOut_top x j).symm.trans (congrArg (wholeOut x) (idx_ext (by show 0 = c.val * 1024; omega) rfl))

/-- The last row. -/
theorem last_agrees (h : Cut m x) (c : Dev nD) (j : Fin 512) :
    lastOf c (xAt m c) (haloRow true (haloAt m c)) (inBand 1 0 (by decide) j)
      = wholeOut x (atW (c.val * 1024 + 1023) (row_lt c (by decide)) j) := by
  have hlt : c.val < 16 := c.isLt
  by_cases hc : Side c true
  · have hpos : c.val < 15 := hc
    have hnb : (nb true c).val = c.val + 1 := by show (c.val + 1) % 16 = c.val + 1; omega
    rw [lastOf_in c hc, below_apply]
    rw [h.row' (nb true c) 0 j (c.val * 1024 + 1022 + 2) (by omega) (by rw [hnb]; show (c.val + 1) * 1024 + 0 = _; omega),
      h.row' c 1022 j (c.val * 1024 + 1022) (by omega) rfl,
      h.row' c 1023 j (c.val * 1024 + 1022 + 1) (by omega) rfl]
    exact (wholeOut_mid x (c.val * 1024 + 1022) (by omega) j).symm
  · have h0 : c.val = 15 := by have : ¬ c.val < 15 := hc; omega
    rw [lastOf_out c hc, h.row' c 1023 j 16383 (by decide) (by show c.val * 1024 + 1023 = 16383; omega)]
    exact (wholeOut_bottom x j).symm.trans (congrArg (wholeOut x) (idx_ext (by show 16383 = c.val * 1024 + 1023; omega) rfl))

/-- An inner row. -/
theorem inner_agrees (h : Cut m x) (c : Dev nD) (r : ℕ) (hr : r < 1022) (j : Fin 512) :
    innerOf (xAt m c) (inBand 1022 r hr j) = wholeOut x (atW (c.val * 1024 + (r + 1)) (row_lt c (by omega)) j) := by
  have hlt : c.val < 16 := c.isLt
  rw [innerOf_apply, orders_agree, h.row c ⟨r, by omega⟩ j, h.row c ⟨r + 1, by omega⟩ j, h.row c ⟨r + 2, by omega⟩ j]
  exact (wholeOut_mid x (c.val * 1024 + r) (by omega) j).symm

/-- What device `c` computes is block `c` of what the reference computes of the whole array. -/
theorem block_agrees (h : Cut m x) (c : Dev nD) :
    yAt m c = Layout.block ⟨2, ![1024, 512]⟩ ⟨2, ![16384, 512]⟩ 0 16 c (wholeOut x) := by
  funext i
  have hi : (i 0).val < 1024 := (i 0).isLt
  rw [Layout.block_apply]
  unfold yAt
  split
  · next h0 => exact (first_agrees h c (i 1)).trans (congrArg (wholeOut x) (idx_ext (by show c.val * 1024 = c.val * 1024 + (i 0).val; omega) rfl))
  · next h0 =>
    split
    · next h1 => exact (last_agrees h c (i 1)).trans (congrArg (wholeOut x) (idx_ext (by show c.val * 1024 + 1023 = c.val * 1024 + (i 0).val; omega) rfl))
    · next h1 =>
      exact (inner_agrees h c ((i 0).val - 1) (by omega) (i 1)).trans
        (congrArg (wholeOut x) (idx_ext (by show c.val * 1024 + ((i 0).val - 1 + 1) = c.val * 1024 + (i 0).val; omega) rfl))

end Cert.Stencil

end
-- ==== Proof.lean ====
/-
  # The claims

  Each run is read at what its claim asks for. The two kernel programs have the same text, so one run, proved for any
  float values, serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Stencil

/-- The kernel on machine floats runs to an end, leaves its argument alone and leaves every counter at zero. -/
theorem frame_kernel : Cert.quiescent_Kernel := fun m ρ _ =>
  (θ_run Cert.KernelIdeal.defs _ _).mono (fun _ h => ⟨fun c => (h.1 c).1, h.2⟩) (run_main (F := Bits) m ρ)

/-- The same on the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference runs to an end and leaves its argument alone; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's result. -/
theorem values : Cert.algebraic_KernelIdeal_ReferenceIdeal := fun m ρ m' ρ' _ hcut =>
  have cut : Cut m (m' (((0 : Dev Cert.ReferenceIdeal.nD).tc : Thread Cert.ReferenceIdeal.nD Cert.ReferenceIdeal.τ).loc
      Cert.ReferenceIdeal.main_arg0)) := hcut
  ⟨wholeOut _,
    (θ_run Cert.KernelIdeal.defs _ _).mono (fun _ h c => ⟨(h.1 c).2.trans (block_agrees cut c), (h.1 c).1⟩)
      (run_main (F := Ideal) m ρ),
    (θ_run Cert.ReferenceIdeal.defs _ _).mono (fun _ h => h 0) (Cert.ReferenceIdeal.Value.run (F := Ideal) m' ρ')⟩

/-- Every claim. -/
theorem claim : Cert.Claim :=
  ⟨Cert.Kernel.Gen.facts, Cert.KernelIdeal.Gen.facts, Cert.ReferenceIdeal.Gen.facts,
    frame_kernel, frame_ideal, frame_reference, trivial, values⟩

end Cert.Proof

end
